-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S1 : Shape := ⟨1, ![1]⟩
abbrev S256x2048 : Shape := ⟨2, ![256, 2048]⟩
abbrev S16x256x256 : Shape := ⟨3, ![16, 256, 256]⟩
abbrev S4x256x2048 : Shape := ⟨3, ![4, 256, 2048]⟩
abbrev S16 : Shape := ⟨1, ![16]⟩
abbrev S4 : Shape := ⟨1, ![4]⟩
abbrev S_ : Shape := ⟨0, ![]⟩
abbrev S1x256x2048 : Shape := ⟨3, ![1, 256, 2048]⟩
abbrev S1x256x256 : Shape := ⟨3, ![1, 256, 256]⟩
abbrev S256x256 : Shape := ⟨2, ![256, 256]⟩

abbrev nBuf : Space → Nat
  | .hbm => 5
  | .vmem => 5
  | .smem => 2
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S4096x256, .fp8e4m3⟩
  | .local _ .vmem, ⟨3, _⟩ => ⟨S16x256x256, .fp8e4m3⟩
  | .local _ .vmem, ⟨4, _⟩ => ⟨S4x256x2048, .f32⟩
  | .local _ .smem, ⟨0, _⟩ => ⟨S1, .f32⟩
  | .local _ .smem, ⟨1, _⟩ => ⟨S1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3 : BitVec 32 := Scalar.subi v2 c0_i32
  let c16_i32_0 : BitVec 32 := 16#32
  let v4 : BitVec 32 := Scalar.addi v3 c16_i32_0
  let c16_i32_1 : BitVec 32 := 16#32
  let v5 : BitVec 32 := Scalar.remsi v4 c16_i32_1
  let c256_i32 : BitVec 32 := 256#32
  let v6 : BitVec 32 := Scalar.muli v5 c256_i32
  let c0_i32_6 : BitVec 32 := 0#32
  ![v6.toNat, 0]
def k0_dev1 (d0 : Dev nD) : Nat :=
  let c0_i32_30 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_26 : BitVec 32 := 1#32
  let v37 : BitVec 32 := Scalar.addi v2 c1_i32_26
  let c16_i32_27 : BitVec 32 := 16#32
  let v38 : BitVec 32 := Scalar.remsi v37 c16_i32_27
  let c1_i32_29 : BitVec 32 := 1#32
  let v39 : BitVec 32 := Scalar.muli v38 c1_i32_29
  let v40 : BitVec 32 := Scalar.addi c0_i32_30 v39
  v40.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_31 : BitVec 32 := 2#32
  let v41 : BitVec 32 := Scalar.addi v2 c2_i32_31
  let c16_i32_32 : BitVec 32 := 16#32
  let v42 : BitVec 32 := Scalar.remsi v41 c16_i32_32
  let c1_i32_34 : BitVec 32 := 1#32
  let v43 : BitVec 32 := Scalar.muli v42 c1_i32_34
  let v44 : BitVec 32 := Scalar.addi c0_i32_35 v43
  v44.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v45 : BitVec 32 := Scalar.addi v2 c3_i32
  let c16_i32_36 : BitVec 32 := 16#32
  let v46 : BitVec 32 := Scalar.remsi v45 c16_i32_36
  let c1_i32_38 : BitVec 32 := 1#32
  let v47 : BitVec 32 := Scalar.muli v46 c1_i32_38
  let v48 : BitVec 32 := Scalar.addi c0_i32_39 v47
  v48.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v49 : BitVec 32 := Scalar.addi v2 c4_i32
  let c16_i32_40 : BitVec 32 := 16#32
  let v50 : BitVec 32 := Scalar.remsi v49 c16_i32_40
  let c1_i32_42 : BitVec 32 := 1#32
  let v51 : BitVec 32 := Scalar.muli v50 c1_i32_42
  let v52 : BitVec 32 := Scalar.addi c0_i32_43 v51
  v52.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v53 : BitVec 32 := Scalar.addi v2 c5_i32
  let c16_i32_44 : BitVec 32 := 16#32
  let v54 : BitVec 32 := Scalar.remsi v53 c16_i32_44
  let c1_i32_46 : BitVec 32 := 1#32
  let v55 : BitVec 32 := Scalar.muli v54 c1_i32_46
  let v56 : BitVec 32 := Scalar.addi c0_i32_47 v55
  v56.toNat
def k0_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v57 : BitVec 32 := Scalar.addi v2 c6_i32
  let c16_i32_48 : BitVec 32 := 16#32
  let v58 : BitVec 32 := Scalar.remsi v57 c16_i32_48
  let c1_i32_50 : BitVec 32 := 1#32
  let v59 : BitVec 32 := Scalar.muli v58 c1_i32_50
  let v60 : BitVec 32 := Scalar.addi c0_i32_51 v59
  v60.toNat
def k0_dev7 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v61 : BitVec 32 := Scalar.addi v2 c7_i32
  let c16_i32_52 : BitVec 32 := 16#32
  let v62 : BitVec 32 := Scalar.remsi v61 c16_i32_52
  let c1_i32_54 : BitVec 32 := 1#32
  let v63 : BitVec 32 := Scalar.muli v62 c1_i32_54
  let v64 : BitVec 32 := Scalar.addi c0_i32_55 v63
  v64.toNat
def k0_dev8 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v65 : BitVec 32 := Scalar.addi v2 c8_i32
  let c16_i32_56 : BitVec 32 := 16#32
  let v66 : BitVec 32 := Scalar.remsi v65 c16_i32_56
  let c1_i32_58 : BitVec 32 := 1#32
  let v67 : BitVec 32 := Scalar.muli v66 c1_i32_58
  let v68 : BitVec 32 := Scalar.addi c0_i32_59 v67
  v68.toNat
def k0_dev9 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v69 : BitVec 32 := Scalar.addi v2 c9_i32
  let c16_i32_60 : BitVec 32 := 16#32
  let v70 : BitVec 32 := Scalar.remsi v69 c16_i32_60
  let c1_i32_62 : BitVec 32 := 1#32
  let v71 : BitVec 32 := Scalar.muli v70 c1_i32_62
  let v72 : BitVec 32 := Scalar.addi c0_i32_63 v71
  v72.toNat
def k0_dev10 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v73 : BitVec 32 := Scalar.addi v2 c10_i32
  let c16_i32_64 : BitVec 32 := 16#32
  let v74 : BitVec 32 := Scalar.remsi v73 c16_i32_64
  let c1_i32_66 : BitVec 32 := 1#32
  let v75 : BitVec 32 := Scalar.muli v74 c1_i32_66
  let v76 : BitVec 32 := Scalar.addi c0_i32_67 v75
  v76.toNat
def k0_dev11 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v77 : BitVec 32 := Scalar.addi v2 c11_i32
  let c16_i32_68 : BitVec 32 := 16#32
  let v78 : BitVec 32 := Scalar.remsi v77 c16_i32_68
  let c1_i32_70 : BitVec 32 := 1#32
  let v79 : BitVec 32 := Scalar.muli v78 c1_i32_70
  let v80 : BitVec 32 := Scalar.addi c0_i32_71 v79
  v80.toNat
def k0_dev12 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v81 : BitVec 32 := Scalar.addi v2 c12_i32
  let c16_i32_72 : BitVec 32 := 16#32
  let v82 : BitVec 32 := Scalar.remsi v81 c16_i32_72
  let c1_i32_74 : BitVec 32 := 1#32
  let v83 : BitVec 32 := Scalar.muli v82 c1_i32_74
  let v84 : BitVec 32 := Scalar.addi c0_i32_75 v83
  v84.toNat
def k0_dev13 (d0 : Dev nD) : Nat :=
  let c0_i32_79 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v85 : BitVec 32 := Scalar.addi v2 c13_i32
  let c16_i32_76 : BitVec 32 := 16#32
  let v86 : BitVec 32 := Scalar.remsi v85 c16_i32_76
  let c1_i32_78 : BitVec 32 := 1#32
  let v87 : BitVec 32 := Scalar.muli v86 c1_i32_78
  let v88 : BitVec 32 := Scalar.addi c0_i32_79 v87
  v88.toNat
def k0_dev14 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v89 : BitVec 32 := Scalar.addi v2 c14_i32
  let c16_i32_80 : BitVec 32 := 16#32
  let v90 : BitVec 32 := Scalar.remsi v89 c16_i32_80
  let c1_i32_82 : BitVec 32 := 1#32
  let v91 : BitVec 32 := Scalar.muli v90 c1_i32_82
  let v92 : BitVec 32 := Scalar.addi c0_i32_83 v91
  v92.toNat
def k0_dev15 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_84 : BitVec 32 := 15#32
  let v93 : BitVec 32 := Scalar.addi v2 c15_i32_84
  let c16_i32_85 : BitVec 32 := 16#32
  let v94 : BitVec 32 := Scalar.remsi v93 c16_i32_85
  let c1_i32_87 : BitVec 32 := 1#32
  let v95 : BitVec 32 := Scalar.muli v94 c1_i32_87
  let v96 : BitVec 32 := Scalar.addi c0_i32_88 v95
  v96.toNat
def k0_off2 (d0 : Dev nD) (c1_i32_90 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v97 : BitVec 32 := Scalar.addi v2 c1_i32_90
  let c16_i32_91 : BitVec 32 := 16#32
  let v98 : BitVec 32 := Scalar.remsi v97 c16_i32_91
  let c256_i32_92 : BitVec 32 := 256#32
  let v99 : BitVec 32 := Scalar.muli v98 c256_i32_92
  let c0_i32_100 : BitVec 32 := 0#32
  ![v99.toNat, 0]
def k0_dev16 (d0 : Dev nD) : Nat :=
  let c0_i32_97 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_90 : BitVec 32 := 1#32
  let v97 : BitVec 32 := Scalar.addi v2 c1_i32_90
  let c16_i32_91 : BitVec 32 := 16#32
  let v98 : BitVec 32 := Scalar.remsi v97 c16_i32_91
  let c1_i32_96 : BitVec 32 := 1#32
  let v100 : BitVec 32 := Scalar.muli v98 c1_i32_96
  let v101 : BitVec 32 := Scalar.addi c0_i32_97 v100
  v101.toNat
def k0_dev17 (d0 : Dev nD) : Nat :=
  let c0_i32_108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_101 : BitVec 32 := 15#32
  let v109 : BitVec 32 := Scalar.addi v2 c15_i32_101
  let c16_i32_102 : BitVec 32 := 16#32
  let v110 : BitVec 32 := Scalar.remsi v109 c16_i32_102
  let c1_i32_107 : BitVec 32 := 1#32
  let v112 : BitVec 32 := Scalar.muli v110 c1_i32_107
  let v113 : BitVec 32 := Scalar.addi c0_i32_108 v112
  v113.toNat
def k0_dev18 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_112 : BitVec 32 := 2#32
  let v121 : BitVec 32 := Scalar.addi v2 c2_i32_112
  let c16_i32_113 : BitVec 32 := 16#32
  let v122 : BitVec 32 := Scalar.remsi v121 c16_i32_113
  let c1_i32_118 : BitVec 32 := 1#32
  let v124 : BitVec 32 := Scalar.muli v122 c1_i32_118
  let v125 : BitVec 32 := Scalar.addi c0_i32_119 v124
  v125.toNat
def k0_dev19 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_123 : BitVec 32 := 14#32
  let v133 : BitVec 32 := Scalar.addi v2 c14_i32_123
  let c16_i32_124 : BitVec 32 := 16#32
  let v134 : BitVec 32 := Scalar.remsi v133 c16_i32_124
  let c1_i32_129 : BitVec 32 := 1#32
  let v136 : BitVec 32 := Scalar.muli v134 c1_i32_129
  let v137 : BitVec 32 := Scalar.addi c0_i32_130 v136
  v137.toNat
def k0_dev20 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_134 : BitVec 32 := 3#32
  let v145 : BitVec 32 := Scalar.addi v2 c3_i32_134
  let c16_i32_135 : BitVec 32 := 16#32
  let v146 : BitVec 32 := Scalar.remsi v145 c16_i32_135
  let c1_i32_140 : BitVec 32 := 1#32
  let v148 : BitVec 32 := Scalar.muli v146 c1_i32_140
  let v149 : BitVec 32 := Scalar.addi c0_i32_141 v148
  v149.toNat
def k0_dev21 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_145 : BitVec 32 := 13#32
  let v157 : BitVec 32 := Scalar.addi v2 c13_i32_145
  let c16_i32_146 : BitVec 32 := 16#32
  let v158 : BitVec 32 := Scalar.remsi v157 c16_i32_146
  let c1_i32_151 : BitVec 32 := 1#32
  let v160 : BitVec 32 := Scalar.muli v158 c1_i32_151
  let v161 : BitVec 32 := Scalar.addi c0_i32_152 v160
  v161.toNat
def k0_dev22 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_156 : BitVec 32 := 4#32
  let v169 : BitVec 32 := Scalar.addi v2 c4_i32_156
  let c16_i32_157 : BitVec 32 := 16#32
  let v170 : BitVec 32 := Scalar.remsi v169 c16_i32_157
  let c1_i32_162 : BitVec 32 := 1#32
  let v172 : BitVec 32 := Scalar.muli v170 c1_i32_162
  let v173 : BitVec 32 := Scalar.addi c0_i32_163 v172
  v173.toNat
def k0_dev23 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_167 : BitVec 32 := 12#32
  let v181 : BitVec 32 := Scalar.addi v2 c12_i32_167
  let c16_i32_168 : BitVec 32 := 16#32
  let v182 : BitVec 32 := Scalar.remsi v181 c16_i32_168
  let c1_i32_173 : BitVec 32 := 1#32
  let v184 : BitVec 32 := Scalar.muli v182 c1_i32_173
  let v185 : BitVec 32 := Scalar.addi c0_i32_174 v184
  v185.toNat
def k0_dev24 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_178 : BitVec 32 := 5#32
  let v193 : BitVec 32 := Scalar.addi v2 c5_i32_178
  let c16_i32_179 : BitVec 32 := 16#32
  let v194 : BitVec 32 := Scalar.remsi v193 c16_i32_179
  let c1_i32_184 : BitVec 32 := 1#32
  let v196 : BitVec 32 := Scalar.muli v194 c1_i32_184
  let v197 : BitVec 32 := Scalar.addi c0_i32_185 v196
  v197.toNat
def k0_dev25 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_189 : BitVec 32 := 11#32
  let v205 : BitVec 32 := Scalar.addi v2 c11_i32_189
  let c16_i32_190 : BitVec 32 := 16#32
  let v206 : BitVec 32 := Scalar.remsi v205 c16_i32_190
  let c1_i32_195 : BitVec 32 := 1#32
  let v208 : BitVec 32 := Scalar.muli v206 c1_i32_195
  let v209 : BitVec 32 := Scalar.addi c0_i32_196 v208
  v209.toNat
def k0_dev26 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_200 : BitVec 32 := 6#32
  let v217 : BitVec 32 := Scalar.addi v2 c6_i32_200
  let c16_i32_201 : BitVec 32 := 16#32
  let v218 : BitVec 32 := Scalar.remsi v217 c16_i32_201
  let c1_i32_206 : BitVec 32 := 1#32
  let v220 : BitVec 32 := Scalar.muli v218 c1_i32_206
  let v221 : BitVec 32 := Scalar.addi c0_i32_207 v220
  v221.toNat
def k0_dev27 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_211 : BitVec 32 := 10#32
  let v229 : BitVec 32 := Scalar.addi v2 c10_i32_211
  let c16_i32_212 : BitVec 32 := 16#32
  let v230 : BitVec 32 := Scalar.remsi v229 c16_i32_212
  let c1_i32_217 : BitVec 32 := 1#32
  let v232 : BitVec 32 := Scalar.muli v230 c1_i32_217
  let v233 : BitVec 32 := Scalar.addi c0_i32_218 v232
  v233.toNat
def k0_dev28 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_222 : BitVec 32 := 7#32
  let v241 : BitVec 32 := Scalar.addi v2 c7_i32_222
  let c16_i32_223 : BitVec 32 := 16#32
  let v242 : BitVec 32 := Scalar.remsi v241 c16_i32_223
  let c1_i32_228 : BitVec 32 := 1#32
  let v244 : BitVec 32 := Scalar.muli v242 c1_i32_228
  let v245 : BitVec 32 := Scalar.addi c0_i32_229 v244
  v245.toNat
def k0_dev29 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_233 : BitVec 32 := 9#32
  let v253 : BitVec 32 := Scalar.addi v2 c9_i32_233
  let c16_i32_234 : BitVec 32 := 16#32
  let v254 : BitVec 32 := Scalar.remsi v253 c16_i32_234
  let c1_i32_239 : BitVec 32 := 1#32
  let v256 : BitVec 32 := Scalar.muli v254 c1_i32_239
  let v257 : BitVec 32 := Scalar.addi c0_i32_240 v256
  v257.toNat
def k0_dev30 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_244 : BitVec 32 := 8#32
  let v265 : BitVec 32 := Scalar.addi v2 c8_i32_244
  let c16_i32_245 : BitVec 32 := 16#32
  let v266 : BitVec 32 := Scalar.remsi v265 c16_i32_245
  let c1_i32_250 : BitVec 32 := 1#32
  let v268 : BitVec 32 := Scalar.muli v266 c1_i32_250
  let v269 : BitVec 32 := Scalar.addi c0_i32_251 v268
  v269.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_269 : BitVec 32 := 256#32
  let v291 : BitVec 32 := Scalar.muli v2 c256_i32_269
  let v292 : Index := Scalar.indexCast v291
  let c0_270 : Index := 0#32
  ![v292.toNat, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Cells.lean ====
/-
# The all-to-all matmul: its cells, buffers and schedule

Sixteen devices. Device `c` holds the columns block `c` of `x` (4096 x 256) and all of `w` (4096 x 2048). It casts its
block to fp8, and sends rows `256 b .. 256 b + 255` of the cast to device `b`, for each `b ≠ c`.

* BARRIER (regular semaphore, one round, 15 units): duty `o ≠ 0` of device `c`'s barrier is paid by device `c + o`, one
  unit, and hands over slot `o` of device `c + o`'s landing buffer: the slot that `c` writes.
* SEND semaphore `k ≠ 0` of device `c`: one round, the transfer to device `c + k`; it hands back the rows sent.
* RECEIVE semaphore `k ≠ 0` of device `c`: one round, the transfer from device `c - k`; it hands over slot `k` of `c`'s
  landing buffer, holding row block `c` of device `c - k`'s cast.
* The four W semaphores: copies within the device, one after another, each holding nothing between copies.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic
public import Mathlib.Algebra.BigOperators.Intervals
public import Mathlib.Tactic.IntervalCases

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, this protocol's rounds, and the local copies' counters -/

abbrev UB : Type := URounds (GSem nD τ sig) (Fin 16)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rounds' component, embedded. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance
/-- The local copies' counters, embedded. -/
abbrev EC : UEmb Counters (MT nD τ sig Unit (Elt F) ℕ UU ℕ) := countersEmb (U := UU)

abbrev 𝒱₀ : Variants := Variants.none

variable (m : (ℓ : Loc nD τ sig) → Buf (Elt F) ℓ)

/-! ## The order of the offsets -/

/-- The offset used at step `j`: 0, then 1, 15, 2, 14, …, 9, 8. -/
def ord : ℕ → Fin 16
  | 0 => 0 | 1 => 1 | 2 => 15 | 3 => 2 | 4 => 14 | 5 => 3 | 6 => 13 | 7 => 4 | 8 => 12
  | 9 => 5 | 10 => 11 | 11 => 6 | 12 => 10 | 13 => 7 | 14 => 9 | _ => 8
/-- The slot offset handed over with the `j`-th signal (which goes to device `c + j`): its negation. -/
def neg : ℕ → Fin 16
  | 0 => 0 | 1 => 15 | 2 => 14 | 3 => 13 | 4 => 12 | 5 => 11 | 6 => 10 | 7 => 9 | 8 => 8
  | 9 => 7 | 10 => 6 | 11 => 5 | 12 => 4 | 13 => 3 | 14 => 2 | _ => 1
/-- The ring slot of `w`'s copy number `p`. -/
def slotOf (p : ℕ) : Fin 4 := Fin.ofNat 4 p

/-! ## Memrefs and semaphores -/

theorem inb_row (b : Fin 16) : ∀ a, (![256 * b.val, 0] : Fin 2 → Nat) a + S256x256.size a ≤ S4096x256.size a := by
  intro a; fin_cases a
  · show 256 * b.val + 256 ≤ 4096; omega
  · show 0 + 256 ≤ 256; omega
theorem inb_wrow (b : Fin 16) : ∀ a, (![256 * b.val, 0] : Fin 2 → Nat) a + S256x2048.size a ≤ S4096x2048.size a := by
  intro a; fin_cases a
  · show 256 * b.val + 256 ≤ 4096; omega
  · show 0 + 2048 ≤ 2048; omega
theorem inb_slot (k : Fin 16) : ∀ a, (![k.val, 0, 0] : Fin 3 → Nat) a + S1x256x256.size a ≤ S16x256x256.size a := by
  intro a; fin_cases a
  · show k.val + 1 ≤ 16; omega
  · show 0 + 256 ≤ 256; omega
  · show 0 + 256 ≤ 256; omega
theorem inb_wslot (k : Fin 4) : ∀ a, (![k.val, 0, 0] : Fin 3 → Nat) a + S1x256x2048.size a ≤ S4x256x2048.size a := by
  intro a; fin_cases a
  · show k.val + 1 ≤ 4; omega
  · show 0 + 256 ≤ 256; omega
  · show 0 + 2048 ≤ 2048; omega
theorem inb_s16 (k : Fin 16) : ∀ a, (![k.val] : Fin 1 → Nat) a + S1.size a ≤ S16.size a := by
  intro a; fin_cases a; show k.val + 1 ≤ 16; omega
theorem inb_s4 (k : Fin 4) : ∀ a, (![k.val] : Fin 1 → Nat) a + S1.size a ≤ S4.size a := by
  intro a; fin_cases a; show k.val + 1 ≤ 4; omega

abbrev rowR (b : Fin 16) : Rect S4096x256 := Rect.unit (s := S4096x256) ![256 * b.val, 0] S256x256.size (inb_row b)
abbrev wrowR (b : Fin 16) : Rect S4096x2048 := Rect.unit (s := S4096x2048) ![256 * b.val, 0] S256x2048.size (inb_wrow b)
abbrev slotR (k : Fin 16) : Rect S16x256x256 := Rect.unit (s := S16x256x256) ![k.val, 0, 0] S1x256x256.size (inb_slot k)
abbrev wslotR (k : Fin 4) : Rect S4x256x2048 := Rect.unit (s := S4x256x2048) ![k.val, 0, 0] S1x256x2048.size (inb_wslot k)

abbrev xM : Memref sig .tc .vmem S4096x256 .f32 := Memref.whole cc0_stg0_0
abbrev oM : Memref sig .tc .vmem S256x2048 .f32 := Memref.whole cc0_stg3_0
abbrev xsM : Memref sig .tc .vmem S4096x256 .fp8e4m3 := Memref.whole cc0_scratch0
abbrev bufM : Memref sig .tc .vmem S16x256x256 .fp8e4m3 := Memref.whole cc0_scratch1
abbrev wbufM : Memref sig .tc .vmem S4x256x2048 .f32 := Memref.whole cc0_scratch2
abbrev wM : Memref sig .tc .hbm S4096x2048 .f32 := Memref.whole main_arg1

/-- Row block `b` of the cast block. -/
abbrev rowM (b : Fin 16) : Memref sig .tc .vmem S256x256 .fp8e4m3 := xsM.slice (rowR b) (fun _ => rfl)
/-- Slot `k` of the landing buffer. -/
abbrev slotM (k : Fin 16) : Memref sig .tc .vmem S256x256 .fp8e4m3 :=
  (bufM.slice (slotR k) (fun _ => rfl)).squeeze S256x256 squeezes_S1x256x256_S256x256
/-- Row block `b` of `w`. -/
abbrev wrowM (b : Fin 16) : Memref sig .tc .hbm S256x2048 .f32 := wM.slice (wrowR b) (fun _ => rfl)
/-- Slot `s` of the ring of `w` blocks. -/
abbrev wslotM (s : Fin 4) : Memref sig .tc .vmem S256x2048 .f32 :=
  (wbufM.slice (wslotR s) (fun _ => rfl)).squeeze S256x2048 squeezes_S1x256x2048_S256x2048

abbrev barS : Sem sig := (SemArray.scalar (sig.barrier 0 rfl) : Sems sig S_).sem
abbrev sendS (k : Fin 16) : DmaSem sig :=
  (((cc0_scratch3 : DmaSems sig S16).slice (Rect.unit (s := S16) ![k.val] S1.size (inb_s16 k))).squeeze S_ squeezes_S1_S_).sem
abbrev recvS (k : Fin 16) : DmaSem sig :=
  (((cc0_scratch4 : DmaSems sig S16).slice (Rect.unit (s := S16) ![k.val] S1.size (inb_s16 k))).squeeze S_ squeezes_S1_S_).sem
abbrev wS (k : Fin 4) : DmaSem sig :=
  (((cc0_scratch5 : DmaSems sig S4).slice (Rect.unit (s := S4) ![k.val] S1.size (inb_s4 k))).squeeze S_ squeezes_S1_S_).sem

theorem sendS_val (k : Fin 16) : (sendS k).val = 4 + k.val := by revert k; decide
theorem recvS_val (k : Fin 16) : (recvS k).val = 20 + k.val := by revert k; decide
theorem wS_val (k : Fin 4) : (wS k).val = 36 + k.val := by revert k; decide

abbrev barCell (c : Dev nD) : GSem nD τ sig := ((c : Thread nD τ), .reg barS)
abbrev sendCell (c : Dev nD) (k : Fin 16) : GSem nD τ sig := ((c : Thread nD τ), .dma (sendS k))
abbrev recvCell (c : Dev nD) (k : Fin 16) : GSem nD τ sig := ((c : Thread nD τ), .dma (recvS k))
abbrev wCell (c : Dev nD) (s : Fin 4) : GSem nD τ sig := ((c : Thread nD τ), .dma (wS s))

/-- The credit of one row block's transfer. -/
abbrev N : ℕ := (slotM 0 : Memref sig .tc .vmem S256x256 .fp8e4m3).view.dmaCredit
theorem N_pos : 0 < N := View.dmaCredit_pos _ (by decide)
/-- The credit of one `w` block's copy. -/
abbrev NW : ℕ := (wslotM 0 : Memref sig .tc .vmem S256x2048 .f32).view.dmaCredit
theorem NW_pos : 0 < NW := View.dmaCredit_pos _ (by decide)

/-! ## Contents -/

/-- Device `c`'s block of `x`, as staged. -/
def xstg (c : Dev nD) : (cc0_stg0_0 : Ref sig .tc).ty.Contents (Elt F) :=
  (win0_0.blk (0 : Fin 1)).view.read (Elt F) (m ((c : Thread nD τ).loc main_arg0))
/-- Its cast to fp8. -/
def xsB (c : Dev nD) : (cc0_scratch0 : Ref sig .tc).ty.Contents (Elt F) := k0_pay2 (xstg m c)
/-- Row block `b` of device `d`'s cast. -/
def rowV (d b : Dev nD) : S256x256.Idx → Elt F .fp8e4m3 := (rowM b).view.read (Elt F) (xsB m d)
/-- Row block `b` of device `c`'s `w`. -/
def wrowV (c b : Dev nD) : S256x2048.Idx → Elt F .f32 := (wrowM b).view.read (Elt F) (m ((c : Thread nD τ).loc main_arg1))

/-- The memref's elements, held at some contents. -/
def anyAt (c : Dev nD) {sp : Space} {s : Shape} {e : EltTy} (M : Memref sig .tc sp s e) : sProp 𝕄 :=
  iprop(∃ f, M.view.loc (c : Thread nD τ) ↦[M.view.set]{fullShare} f)
instance anyAt_storable (c : Dev nD) {sp : Space} {s : Shape} {e : EltTy} (M : Memref sig .tc sp s e) :
    BI.Storable (upEmb : UEmb _ 𝕄) (anyAt (F := F) c M) := by unfold anyAt; infer_instance

/-- Row block `b` of device `c`'s `w`, held. -/
def wPts (c b : Dev nD) : sProp 𝕄 :=
  (wrowM b).view.loc (c : Thread nD τ) ↦[(wrowM b).view.set]{fullShare} m ((c : Thread nD τ).loc main_arg1)

/-! ## The schedule -/

/-- What the duty `o` of device `c`'s barrier hands over. -/
def barPay (c : Dev nD) (o : Fin 16) : sProp 𝕄 := anyAt (c + o) (slotM o)
/-- What the transfer from device `c - k` hands device `c`. -/
def recvPay (c : Dev nD) (k : Fin 16) : sProp 𝕄 := owns (c : Thread nD τ) (slotM k) fullShare (rowV m (c - k) c)
/-- What the transfer to device `c + k` hands back. -/
def sendPay (c : Dev nD) (k : Fin 16) : sProp 𝕄 := anyAt c (rowM (c + k))

/-- A semaphore's number among the DMA semaphores. -/
def semNo : SemLoc sig → ℕ | .reg _ => 0 | .dma q => q.val
/-- The offset a send or receive semaphore belongs to. -/
def offOf (s : SemLoc sig) : Fin 16 := Fin.ofNat 16 (semNo s + 12)
abbrev IsSend (s : SemLoc sig) : Prop := 5 ≤ semNo s ∧ semNo s < 20
abbrev IsRecv (s : SemLoc sig) : Prop := 21 ≤ semNo s ∧ semNo s < 36

/-- One round: a barrier cell's fifteen duties, a send or receive cell's one. -/
def sched : Rounds.Schedule (GSem nD τ sig) (Fin 16) 𝕄 where
  duties g r := if r = 0 ∧ g.1.2 = .tc then
      (if g.2 = .reg barS then Finset.univ.erase 0 else if IsSend g.2 ∨ IsRecv g.2 then {0} else ∅) else ∅
  unitless _ := False
  amount g _ _ := if g.2 = .reg barS then 1 else N
  payload g _ d :=
    if g.2 = .reg barS then barPay g.1.1 d
    else if IsRecv g.2 then recvPay m g.1.1 (offOf g.2)
    else if IsSend g.2 then sendPay g.1.1 (offOf g.2)
    else iprop(emp)
  amount_pos g _ _ _ := by
    by_cases h : g.2 = .reg barS
    · rw [if_pos h]; exact Nat.one_pos
    · rw [if_neg h]; exact N_pos

instance sched_storable (g : GSem nD τ sig) (r : ℕ) (d : Fin 16) :
    BI.Storable (upEmb : UEmb _ 𝕄) ((sched (F := F) m).payload g r d) := by
  show BI.Storable upEmb (if g.2 = .reg barS then barPay g.1.1 d else if IsRecv g.2 then recvPay m g.1.1 (offOf g.2)
    else if IsSend g.2 then sendPay g.1.1 (offOf g.2) else iprop(emp))
  unfold barPay recvPay sendPay
  (repeat' split) <;> infer_instance

section Sched
variable (c : Dev nD) (k : Fin 16)

theorem send_ne_bar : (SemLoc.dma (sendS k) : SemLoc sig) ≠ .reg barS := fun h => by cases h
theorem recv_ne_bar : (SemLoc.dma (recvS k) : SemLoc sig) ≠ .reg barS := fun h => by cases h
theorem isSend_send (hk : k ≠ 0) : IsSend (.dma (sendS k)) := by revert k; decide
theorem isRecv_recv (hk : k ≠ 0) : IsRecv (.dma (recvS k)) := by revert k; decide
theorem not_isRecv_send : ¬ IsRecv (.dma (sendS k)) := by revert k; decide
theorem not_isSend_send0 : ¬ (IsSend (.dma (sendS 0)) ∨ IsRecv (.dma (sendS 0))) := by decide
theorem not_isSend_recv0 : ¬ (IsSend (.dma (recvS 0)) ∨ IsRecv (.dma (recvS 0))) := by decide
theorem offOf_send : offOf (.dma (sendS k)) = k := by revert k; decide
theorem offOf_recv : offOf (.dma (recvS k)) = k := by revert k; decide

theorem duties_bar : (sched (F := F) m).duties (barCell c) 0 = Finset.univ.erase 0 := by
  dsimp only [sched]; rw [if_pos ⟨rfl, rfl⟩]; exact if_pos rfl
theorem duties_send (hk : k ≠ 0) : (sched (F := F) m).duties (sendCell c k) 0 = {0} := by
  dsimp only [sched]; rw [if_pos ⟨rfl, rfl⟩, if_neg (send_ne_bar k)]; exact if_pos (.inl (isSend_send k hk))
theorem duties_recv (hk : k ≠ 0) : (sched (F := F) m).duties (recvCell c k) 0 = {0} := by
  dsimp only [sched]; rw [if_pos ⟨rfl, rfl⟩, if_neg (recv_ne_bar k)]; exact if_pos (.inr (isRecv_recv k hk))
theorem duties_later (g : GSem nD τ sig) : ∀ r, 1 ≤ r → (sched (F := F) m).duties g r = ∅ :=
  fun r hr => by dsimp only [sched]; rw [if_neg fun h => by omega]
theorem duties_send0 : ∀ r, 0 ≤ r → (sched (F := F) m).duties (sendCell c 0) r = ∅ := fun r _ => by
  dsimp only [sched]; rw [if_neg (send_ne_bar 0), if_neg not_isSend_send0]; exact ite_self _
theorem duties_recv0 : ∀ r, 0 ≤ r → (sched (F := F) m).duties (recvCell c 0) r = ∅ := fun r _ => by
  dsimp only [sched]; rw [if_neg (recv_ne_bar 0), if_neg not_isSend_recv0]; exact ite_self _

theorem amount_bar (d : Fin 16) : (sched (F := F) m).amount (barCell c) 0 d = 1 := by dsimp only [sched]; exact if_pos rfl
theorem amount_send (d : Fin 16) : (sched (F := F) m).amount (sendCell c k) 0 d = N := by dsimp only [sched]; exact if_neg (send_ne_bar k)
theorem amount_recv (d : Fin 16) : (sched (F := F) m).amount (recvCell c k) 0 d = N := by dsimp only [sched]; exact if_neg (recv_ne_bar k)

theorem expect_bar : (sched (F := F) m).expect (barCell c) 0 = 15 := by
  unfold Schedule.expect Schedule.amountOf
  rw [duties_bar, Finset.sum_congr rfl fun d _ => amount_bar m c d, Finset.sum_const]; rfl
theorem expect_send (hk : k ≠ 0) : (sched (F := F) m).expect (sendCell c k) 0 = N := by
  unfold Schedule.expect Schedule.amountOf; rw [duties_send m c k hk, Finset.sum_singleton, amount_send]
theorem expect_recv (hk : k ≠ 0) : (sched (F := F) m).expect (recvCell c k) 0 = N := by
  unfold Schedule.expect Schedule.amountOf; rw [duties_recv m c k hk, Finset.sum_singleton, amount_recv]

theorem payload_bar (d : Fin 16) : (sched (F := F) m).payload (barCell c) 0 d = barPay c d := by dsimp only [sched]; rw [if_pos rfl]
theorem payload_send (hk : k ≠ 0) (d : Fin 16) : (sched (F := F) m).payload (sendCell c k) 0 d = sendPay c k := by
  dsimp only [sched]; rw [if_neg (send_ne_bar k), if_neg (not_isRecv_send k), if_pos (isSend_send k hk), offOf_send]
theorem payload_recv (hk : k ≠ 0) (d : Fin 16) : (sched (F := F) m).payload (recvCell c k) 0 d = recvPay m c k := by
  dsimp only [sched]; rw [if_neg (recv_ne_bar k), if_pos (isRecv_recv k hk), offOf_recv]

theorem rest_bar : bigSep ((sched (F := F) m).duties (barCell c) 0 \ ∅) (fun d => (sched (F := F) m).payload (barCell c) 0 d)
    = bigSep (Finset.univ.erase (0 : Fin 16)) (barPay c) := by
  rw [Finset.sdiff_empty, duties_bar]; exact bigSep_congr fun d _ => payload_bar m c d
theorem rest_send (hk : k ≠ 0) : bigSep ((sched (F := F) m).duties (sendCell c k) 0 \ ∅) (fun d => (sched (F := F) m).payload (sendCell c k) 0 d) = sendPay c k := by
  rw [Finset.sdiff_empty, duties_send m c k hk, bigSep_singleton, payload_send m c k hk]
theorem rest_recv (hk : k ≠ 0) : bigSep ((sched (F := F) m).duties (recvCell c k) 0 \ ∅) (fun d => (sched (F := F) m).payload (recvCell c k) 0 d) = recvPay m c k := by
  rw [Finset.sdiff_empty, duties_recv m c k hk, bigSep_singleton, payload_recv m c k hk]

end Sched

/-! ## What each core owes; the levels -/

/-- The receive credits still owed before the send of step `j`. -/
def OR (c : Dev nD) (j : ℕ) : CellTallies nD τ sig Unit := ∑ i ∈ Finset.Ico j 16, tallyAt (recvCell (c + ord i) (ord i)) () N
/-- What is owed before the `j`-th signal: the barrier units from it on, and every receive credit. -/
def OB (c : Dev nD) (j : ℕ) : CellTallies nD τ sig Unit := OR c 1 + ∑ i ∈ Finset.Ico j 16, tallyAt (barCell (c - neg i)) () 1
def O₀ (c : Dev nD) : CellTallies nD τ sig Unit := OB c 1

theorem OR_step (c : Dev nD) {j : ℕ} (h : j < 16) : OR c j = OR c (j + 1) + tallyAt (recvCell (c + ord j) (ord j)) () N := by
  unfold OR; rw [Finset.sum_eq_sum_Ico_succ_bot h, add_comm]
theorem OR_end (c : Dev nD) : OR c 16 = 0 := by unfold OR; simp
theorem OB_step (c : Dev nD) {j : ℕ} (h : j < 16) : OB c j = OB c (j + 1) + tallyAt (barCell (c - neg j)) () 1 := by
  unfold OB; rw [Finset.sum_eq_sum_Ico_succ_bot h, add_comm (tallyAt _ _ _), add_assoc]
theorem OB_end (c : Dev nD) : OB c 16 = OR c 1 := by unfold OB; simp

def L (g : GSem nD τ sig) : Finset Unit := if g.1.2 = .tc then {()} else ∅
/-- barrier cells at 1, receive cells at 2, everything else at 0. -/
def lv (g : GSem nD τ sig) (_ : Unit) : ℕ := if g.2 = .reg barS then 1 else if IsRecv g.2 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 16) (hk : k ≠ 0) : lv (recvCell c k) () = 2 := by
  unfold lv; rw [if_neg (recv_ne_bar k), if_pos (isRecv_recv k hk)]

theorem ord_ne : ∀ j, 1 ≤ j → ord j ≠ 0 := by
  intro j hj
  by_cases h : j < 16
  · interval_cases j <;> decide
  · unfold ord; split <;> first | omega | decide

theorem sum_tally_pos {s : Finset ℕ} {t : ℕ → CellTallies nD τ sig Unit} {g : GSem nD τ sig} {u : Unit}
    (h : 0 < (∑ i ∈ s, t i) g u) : ∃ i ∈ s, 0 < t i g u := by
  by_contra hn
  have h0 : ∀ i ∈ s, t i g u = 0 := fun i hi => Nat.eq_zero_of_not_pos fun hp => hn ⟨i, hi, hp⟩
  rw [Finset.sum_apply, Finsupp.finset_sum_apply, Finset.sum_eq_zero h0] at h
  exact Nat.lt_irrefl 0 h
theorem tallyAt_pos {g g' : GSem nD τ sig} {u : Unit} {n : ℕ} (h : 0 < (tallyAt g' () n : CellTallies nD τ sig Unit) g u) : g = g' := by
  rw [tallyAt_apply] at h
  by_contra hn
  rw [if_neg fun h' => hn h'.1] at h; exact Nat.lt_irrefl 0 h

theorem OR_pos {c : Dev nD} {j : ℕ} (hj : 1 ≤ j) {g : GSem nD τ sig} {u : Unit} (h : 0 < OR c j g u) : ∃ d k, k ≠ 0 ∧ g = recvCell d k := by
  unfold OR at h
  obtain ⟨i, hi, hp⟩ := sum_tally_pos h
  exact ⟨_, _, ord_ne i (hj.trans (Finset.mem_Ico.mp hi).1), tallyAt_pos hp⟩
theorem O₀_pos {c : Dev nD} {g : GSem nD τ sig} {u : Unit} (h : 0 < O₀ c g u) : (∃ d, g = barCell d) ∨ ∃ d k, k ≠ 0 ∧ g = recvCell d k := by
  unfold O₀ OB at h
  rw [Pi.add_apply, Finsupp.add_apply] at h
  rcases Nat.add_pos_iff_pos_or_pos.mp h with h | h
  · exact .inr (OR_pos (le_refl 1) h)
  · obtain ⟨i, -, hp⟩ := sum_tally_pos h
    exact .inl ⟨_, tallyAt_pos hp⟩

/-- Whatever is owed, a staging semaphore may be waited on. -/
theorem mayWait_stage (c : Dev nD) (q : DmaSem sig) (hq : ¬ IsRecv (.dma q)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, k, hk, rfl⟩ <;> exact Finset.mem_singleton_self _)
      (fun p hp => by rw [Finset.mem_singleton.mp hp]; dsimp only [lv]; rw [if_neg (fun h => by cases h), if_neg hq])
      (fun g u hg => by
        rcases O₀_pos hg with ⟨d, rfl⟩ | ⟨d, k, hk, rfl⟩
        · rw [lv_bar]; decide
        · rw [lv_recv d k hk]; decide)
  · rw [MayWait_zero]; iintro -; iempintro

/-- At its barrier wait a device owes receive credits only. -/
theorem mayWait_bar (c : Dev nD) : (levAts L lv : sProp 𝕄) ⊢ MayWait (c : Thread nD τ) (.reg barS) () (OR c 1) :=
  MayOwe.of_cut (L := L) (lev := lv) 1 (fun p hp => by rw [Finset.mem_singleton.mp hp, L_tc]; exact Finset.mem_singleton_self _)
    (fun g u hg => by obtain ⟨d, k, hk, rfl⟩ := OR_pos (le_refl 1) hg; exact Finset.mem_singleton_self _)
    (fun p hp => by rw [Finset.mem_singleton.mp hp]; dsimp only [lv]; rw [if_pos rfl])
    (fun g u hg => by obtain ⟨d, k, hk, rfl⟩ := OR_pos (le_refl 1) hg; rw [lv_recv d k hk]; decide)

/-! ## Every cell of the protocol, and the record of its invariants -/

/-- A device's cells: its barrier, its sixteen sends, its sixteen receives (offset 0 unused). -/
abbrev CI : Type := Unit ⊕ (Fin 16 ⊕ Fin 16)
abbrev csem : CI → SemLoc sig := fun | .inl _ => .reg barS | .inr (.inl k) => .dma (sendS k) | .inr (.inr k) => .dma (recvS k)
abbrev kcell (ck : Dev nD × CI) : GSem nD τ sig := ((ck.1 : Thread nD τ), csem ck.2)

def records (K : Dev nD × CI → ℕ) : sProp 𝕄 :=
  iprop((bigSep Finset.univ fun ck : Dev nD × CI => cellInv ER (sched m) (K ck) (kcell ck))
    ∗ bigSep Finset.univ fun ck : Dev nD × CI => reached ER (kcell ck) 0)
instance records_persistent (K : Dev nD × CI → ℕ) : BI.Persistent (records m K) := by unfold records; infer_instance

theorem inv_at (K : Dev nD × CI → ℕ) (ck : Dev nD × CI) : records m K ⊢ cellInv ER (sched m) (K ck) (kcell ck) := by
  have h : (bigSep Finset.univ fun ck : Dev nD × CI => (cellInv ER (sched m) (K ck) (kcell ck) : sProp 𝕄))
    ⊢ cellInv ER (sched m) (K ck) (kcell ck) := bigSep_elim (Finset.mem_univ ck)
  unfold records; iintro ⟨H, -⟩
  iapply h; iexact H
theorem reached_at (K : Dev nD × CI → ℕ) (ck : Dev nD × CI) : records m K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records; iintro ⟨-, H⟩
  iapply h; iexact H

end Cert.KProof

end
-- ==== Proof.Steps.lean ====
/-
# The kernel's operations, one rule each

The body is straight-line code over the positions `0 … 15` of the offsets' order. Each family of resources is a run over
an interval of positions, split at how far the body has got; each rule below takes one operation and moves one split.
-/
module

public import proofs.«01_k».proof.Proof.Cells
public import Idealize.SL.BI.BigOpNat

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

theorem dev_sub_add (c : Dev nD) (k : Fin 16) : c - k + k = c := Fin.ext (by
  have h : c.val < 16 := c.isLt
  show ((16 - k.val + c.val) % 16 + k.val) % 16 = c.val; omega)
theorem dev_add_sub (c : Dev nD) (k : Fin 16) : c + k - k = c := Fin.ext (by
  have h : c.val < 16 := c.isLt
  show (16 - k.val + (c.val + k.val) % 16) % 16 = c.val; omega)

/-- What core `c` owes, whatever it has waited on. -/
def owe (c : Dev nD) (O : CellTallies nD τ sig Unit) : sProp 𝕄 := iprop(∃ W, owes (c : Thread nD τ) O W)

/-! ## The signals -/

/-- Before the `j`-th signal: the tokens of the duties it and the later ones pay, the slots they hand over, what is owed. -/
def SigSt (c : Dev nD) (j : ℕ) : sProp 𝕄 :=
  iprop((bigSep (Finset.Ico j 16) fun i => iprop(dutyTok ER (barCell (c - neg i)) 0 (neg i) ∗ anyAt c (slotM (neg i)))) ∗ owe c (OB c j))

theorem neg_ne : ∀ j, 1 ≤ j → neg j ≠ 0 := by
  intro j hj
  by_cases h : j < 16
  · interval_cases j <;> decide
  · unfold neg; split <;> first | omega | decide

/-- The `j`-th signal. -/
theorem signal_step (c : Dev nD) {j : ℕ} (h1 : 1 ≤ j) (h : j < 16) {n : Dev nD} (hn : n = c - neg j) {sm : Sem sig} (hsm : sm = barS) {a : Int} (ha : a = 1)
    {α : Type} {Q : α → sProp 𝕄} {k : PUnit → Prog (TpuEff nD τ sig (Elt F) Λ₀ .tc) α} :
    iprop(records m K ∗ SigSt c j)
      ⊢ iprop((SigSt c (j + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) sm a) k) Q) := by
  subst hn; subst hsm; subst ha
  unfold SigSt owe
  rw [bigSep_Ico_succ_bot h]
  iintro ⟨#HR, ⟨⟨Ht, Hs⟩, Hrest⟩, ⟨%W, HO⟩⟩ Hk
  iapply (Rounds.wp_signal 𝒱₀ ER (sched m) (c : Thread nD τ) none (dst := ((c - neg j : Dev nD) : Thread nD τ)) (κ := K (c - neg j, .inl ()))
      (d := neg j) (by rw [duties_bar]; exact Finset.mem_erase.mpr ⟨neg_ne j h1, Finset.mem_univ _⟩) (amount_bar m (c - neg j) (neg j)) () (OB c (j + 1)) (OB_step c h))
    $$ [Ht Hs HO]
  · isplitr; · iapply (inv_at m K (c - neg j, .inl ())); iexact HR
    isplitl [HO]; · iexact HO
    isplitl [Ht]; · iexact Ht
    isplitl [Hs]; · rw [payload_bar]; unfold barPay; rw [dev_sub_add]; iexact Hs
    iapply (reached_at m K (c - neg j, .inl ())); iexact HR
  iintro HO
  iapply Hk
  isplitl [Hrest]; · iexact Hrest
  iexists W; iexact HO

/-- The barrier wait: every other device's slot for this one comes with it. -/
theorem barrier_step (c : Dev nD) {sm : Sem sig} (hsm : sm = barS) {a : Int} (ha : a = 15)
    {α : Type} {Q : α → sProp 𝕄} {k : PUnit → Prog (TpuEff nD τ sig (Elt F) Λ₀ .tc) α} :
    iprop(records m K ∗ levAts L lv ∗ SigSt c 16 ∗ cred (tallyAt (barCell c) () 15) ∗ atPos ER (barCell c) 0 ∅ 0)
      ⊢ iprop(((owe c (OR c 1) ∗ atPos ER (barCell c) 1 ∅ 0 ∗ bigSep (Finset.univ.erase (0 : Fin 16)) (barPay c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm a) k) Q) := by
  subst hsm; subst ha
  unfold SigSt owe
  rw [OB_end]
  iintro ⟨#HR, #Hlev, ⟨-, ⟨%W, HO⟩⟩, Hc, Hat⟩ Hk
  iapply (Rounds.wp_wait_rest_token 𝒱₀ ER (sched m) (c : Thread nD τ) none (κ := K (c, .inl ()))
      (wpE_semWait_eq 𝒱₀ (c : Thread nD τ) none Set.univ) (Set.mem_univ _) () (O := OR c 1) (W := W) (R := 0) (m := 0) (T := ∅)
      (by rw [expect_bar])) $$ [Hc HO Hat]
  · isplitr; · iapply (inv_at m K (c, .inl ())); iexact HR
    isplitl [Hc]; · iexact Hc
    isplitl [HO]; · iexact HO
    isplitr; · iapply (mayWait_bar c); iexact Hlev
    iexact Hat
  iintro ⟨HO, Hat, -, Hp⟩
  iapply Hk
  isplitl [HO]; · iexists _; iexact HO
  isplitl [Hat]; · iexact Hat
  rw [← rest_bar m c]; iexact Hp

/-! ## The sends -/

/-- Row block `b` of device `c`'s cast block, held. -/
def rowPts (c b : Dev nD) : sProp 𝕄 := (rowM b).view.loc (c : Thread nD τ) ↦[(rowM b).view.set]{fullShare} xsB m c

/-- Before the send of position `j`: what the sends from it on need, the credits of the earlier ones, what is owed. -/
def SSt (c : Dev nD) (j : ℕ) : sProp 𝕄 :=
  iprop((bigSep (Finset.Ico j 16) fun i => iprop(rowPts m c (c + ord i) ∗ anyAt (c + ord i) (slotM (ord i))
      ∗ dutyTok ER (sendCell c (ord i)) 0 0 ∗ dutyTok ER (recvCell (c + ord i) (ord i)) 0 0))
    ∗ (bigSep (Finset.Ico 1 j) fun i => cred (tallyAt (sendCell c (ord i)) () N)) ∗ owe c (OR c j))

/-- What the transfer to device `c + k` leaves in its slot `k` is what that device's receive expects. -/
theorem landed (c : Dev nD) (k : Fin 16) (fd : Buf (Elt F) ((slotM k).view.loc ((c + k : Dev nD) : Thread nD τ))) :
    ((slotM k).view.loc ((c + k : Dev nD) : Thread nD τ) ↦[(slotM k).view.set]{fullShare}
        ((slotM k).view.write (Elt F) fd ((rowM (c + k)).view.read (Elt F) (xsB m c)) Finset.univ) : sProp 𝕄)
      ⊢ recvPay m (c + k) k := by
  have h : (slotM k).view.read (Elt F) ((slotM k).view.write (Elt F) fd ((rowM (c + k)).view.read (Elt F) (xsB m c)) Finset.univ)
      = rowV m (c + k - k) (c + k) := by rw [dev_add_sub]; exact View.read_write_univ _ _
  unfold recvPay owns
  iintro H
  iexists ((slotM k).view.write (Elt F) fd ((rowM (c + k)).view.read (Elt F) (xsB m c)) Finset.univ)
  isplitr; · ipureintro; exact h
  iexact H

/-- The send of position `j`, to device `c + ord j`. -/
theorem send_step (c : Dev nD) (j : ℕ) (h1 : 1 ≤ j) (h : j < 16) {n : Dev nD} (hn : n = c + ord j)
    {o1 : Fin 2 → Nat} {i1} (ho1 : o1 = ![256 * (c + ord j).val, 0]) {o2 : Fin 3 → Nat} {i2} (ho2 : o2 = ![(ord j).val, 0, 0])
    {sS sR : DmaSem sig} (hsS : sS = sendS (ord j)) (hsR : sR = recvS (ord j)) {hs1 hs2 hq hsc hsrc hdst hsem}
    {α : Type} {Q : α → sProp 𝕄} {k : PUnit → Prog (TpuEff nD τ sig (Elt F) Λ₀ .tc) α} :
    iprop(records m K ∗ SSt m c j)
      ⊢ iprop((SSt m c (j + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xsM.slice (Rect.unit (s := S4096x256) o1 S256x256.size i1) hs1)
                (.remote (Dev.tc n : Thread nD τ) ((bufM.slice (Rect.unit (s := S16x256x256) o2 S1x256x256.size i2) hs2).squeeze S256x256 hq) (.dma sS) hsc)
                (.dma sR) hsrc hdst hsem) k) Q) := by
  subst hn; subst ho1; subst ho2; subst hsS; subst hsR
  unfold SSt owe rowPts anyAt
  rw [bigSep_Ico_succ_bot h, bigSep_Ico_succ_top h1]
  iintro ⟨#HR, ⟨⟨Hrow, ⟨%fd, Hslot⟩, HtS, HtR⟩, Hrest⟩, Hcr, ⟨%W, HO⟩⟩ Hk
  iapply (Rounds.wp_send_pointsTo 𝒱₀ ER (sched m) (c : Thread nD τ) none (κ₁ := K (c, .inr (.inl (ord j)))) (κ₂ := K (c + ord j, .inr (.inr (ord j))))
    (c' := ((c + ord j : Dev nD) : Thread nD τ)) (src := rowM (c + ord j)) (dst := slotM (ord j))
    (r₁ := 0) (r₂ := 0) (d₁ := 0) (d₂ := 0) (fd := fd) (fs := xsB m c)
    (by rw [duties_send m c _ (ord_ne j h1)]; exact Finset.mem_singleton_self _) (by rw [duties_recv m _ _ (ord_ne j h1)]; exact Finset.mem_singleton_self _)
    () () N rfl (amount_send m c _ 0) (amount_recv m _ _ 0) (OR c (j + 1)) (OR_step c h) (W := W)
    (by rw [payload_send m c _ (ord_ne j h1)]; unfold sendPay anyAt; iintro H; iexists _; iexact H)
    (by rw [payload_recv m _ _ (ord_ne j h1)]; exact landed m c (ord j) fd)) $$ [Hrow Hslot HO HtS HtR]
  · isplitr; · iapply (inv_at m K (c, .inr (.inl (ord j)))); iexact HR
    isplitr; · iapply (inv_at m K (c + ord j, .inr (.inr (ord j)))); iexact HR
    isplitl [Hrow]; · iexact Hrow
    isplitl [Hslot]; · iexact Hslot
    isplitl [HO]; · iexact HO
    isplitl [HtS]; · iexact HtS
    isplitr; · iapply (reached_at m K (c, .inr (.inl (ord j)))); iexact HR
    isplitl [HtR]; · iexact HtR
    iapply (reached_at m K (c + ord j, .inr (.inr (ord j)))); iexact HR
  iintro ⟨Hc, HO⟩
  iapply Hk
  isplitl [Hrest]; · iexact Hrest
  isplitl [Hc Hcr]; · isplitl [Hc] <;> iassumption
  iexists W; iexact HO

/-! ## The waits on the sends -/

/-- Before the wait on the send of position `j`. -/
def TSt (c : Dev nD) (j : ℕ) : sProp 𝕄 :=
  iprop((bigSep (Finset.Ico j 16) fun i => iprop(cred (tallyAt (sendCell c (ord i)) () N) ∗ atPos ER (sendCell c (ord i)) 0 ∅ 0))
    ∗ (bigSep (Finset.Ico 1 j) fun i => iprop(atPos ER (sendCell c (ord i)) 1 ∅ 0 ∗ anyAt c (rowM (c + ord i)))))

theorem waitSend_step (c : Dev nD) (j : ℕ) (h1 : 1 ≤ j) (h : j < 16) {sS : DmaSem sig} (hsS : sS = sendS (ord j))
    {src : Memref sig .tc .vmem S256x256 .fp8e4m3} {o1 : Fin 2 → Nat} {i1} (ho1 : o1 = ![256 * (c + ord j).val, 0])
    {hs1 hsrc hdst} {α : Type} {Q : α → sProp 𝕄} {k : PUnit → Prog (TpuEff nD τ sig (Elt F) Λ₀ .tc) α} :
    iprop(records m K ∗ TSt c j ∗ owe c 0)
      ⊢ iprop((TSt c (j + 1) ∗ owe c 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS src (xsM.slice (Rect.unit (s := S4096x256) o1 S256x256.size i1) hs1) hsrc hdst) k) Q) := by
  subst hsS; subst ho1
  unfold TSt owe
  rw [bigSep_Ico_succ_bot h, bigSep_Ico_succ_top h1]
  iintro ⟨#HR, ⟨⟨⟨Hc, Hat⟩, Hrest⟩, Hdone⟩, ⟨%W, HO⟩⟩ Hk
  iapply (Rounds.wp_wait_rest_token 𝒱₀ ER (sched m) (c : Thread nD τ) none (κ := K (c, .inr (.inl (ord j))))
      (wpE_waitDma2_eq 𝒱₀ (c : Thread nD τ) none Set.univ) (Set.mem_univ _) () (O := 0) (W := W) (R := 0) (m := 0) (T := ∅)
      (by rw [Nat.zero_add, expect_send m c _ (ord_ne j h1)]; rfl)) $$ [Hc HO Hat]
  · isplitr; · iapply (inv_at m K (c, .inr (.inl (ord j)))); iexact HR
    isplitl [Hc]; · iexact Hc
    isplitl [HO]; · iexact HO
    isplitr; · rw [MayWait_zero]; iempintro
    iexact Hat
  iintro ⟨HO, Hat, -, Hp⟩
  ihave Hp := (Entails.of_eq (rest_send m c _ (ord_ne j h1))) $$ Hp
  unfold sendPay
  iapply Hk
  isplitr [HO]
  · isplitl [Hrest]; · iexact Hrest
    isplitl [Hat Hp]; · isplitl [Hat] <;> iassumption
    iexact Hdone
  iexists _; iexact HO

/-! ## The waits on the receives, and the loads of what landed -/

/-- Before the wait on the receive of position `j`. -/
def RSt (c : Dev nD) (j : ℕ) : sProp 𝕄 :=
  iprop((bigSep (Finset.Ico j 16) fun i => iprop(cred (tallyAt (recvCell c (ord i)) () N) ∗ atPos ER (recvCell c (ord i)) 0 ∅ 0))
    ∗ (bigSep (Finset.Ico 1 j) fun i => iprop(atPos ER (recvCell c (ord i)) 1 ∅ 0 ∗ owns (c : Thread nD τ) (slotM (ord i)) fullShare (rowV m (c - ord i) c))))

theorem waitRecv_step (c : Dev nD) (j : ℕ) (h1 : 1 ≤ j) (h : j < 16) {sR : DmaSem sig} (hsR : sR = recvS (ord j))
    {src : Memref sig .tc .vmem S256x256 .fp8e4m3} {o2 : Fin 3 → Nat} {i2} (ho2 : o2 = ![(ord j).val, 0, 0])
    {hs2 hq hsrc hdst} {α : Type} {Q : α → sProp 𝕄} {k : PUnit → Prog (TpuEff nD τ sig (Elt F) Λ₀ .tc) α} :
    iprop(records m K ∗ RSt m c j ∗ owe c 0)
      ⊢ iprop((RSt m c (j + 1) ∗ owe c 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sR src ((bufM.slice (Rect.unit (s := S16x256x256) o2 S1x256x256.size i2) hs2).squeeze S256x256 hq) hsrc hdst) k) Q) := by
  subst hsR; subst ho2
  unfold RSt owe
  rw [bigSep_Ico_succ_bot h, bigSep_Ico_succ_top h1]
  iintro ⟨#HR, ⟨⟨⟨Hc, Hat⟩, Hrest⟩, Hdone⟩, ⟨%W, HO⟩⟩ Hk
  iapply (Rounds.wp_wait_rest_token 𝒱₀ ER (sched m) (c : Thread nD τ) none (κ := K (c, .inr (.inr (ord j))))
      (wpE_waitDma2_eq 𝒱₀ (c : Thread nD τ) none Set.univ) (Set.mem_univ _) () (O := 0) (W := W) (R := 0) (m := 0) (T := ∅)
      (by rw [Nat.zero_add, expect_recv m c _ (ord_ne j h1)])) $$ [Hc HO Hat]
  · isplitr; · iapply (inv_at m K (c, .inr (.inr (ord j)))); iexact HR
    isplitl [Hc]; · iexact Hc
    isplitl [HO]; · iexact HO
    isplitr; · rw [MayWait_zero]; iempintro
    iexact Hat
  iintro ⟨HO, Hat, -, Hp⟩
  ihave Hp := (Entails.of_eq (rest_recv m c _ (ord_ne j h1))) $$ Hp
  unfold recvPay
  iapply Hk
  isplitr [HO]
  · isplitl [Hrest]; · iexact Hrest
    isplitl [Hat Hp]; · isplitl [Hat] <;> iassumption
    iexact Hdone
  iexists _; iexact HO

/-- A block of a landing slot, as the load of the slot's box reads it. -/
def bV (X : S256x256.Idx → Elt F .fp8e4m3) : S1x256x256.Idx → Elt F .fp8e4m3 :=
  fun y => X ((Shape.reshapeEquiv squeezes_S1x256x256_S256x256.numel_eq).symm y)
/-- A block of a ring slot of `w`, as the load of the slot's box reads it. -/
def wV (X : S256x2048.Idx → Elt F .f32) : S1x256x2048.Idx → Elt F .f32 :=
  fun y => X ((Shape.reshapeEquiv squeezes_S1x256x2048_S256x2048.numel_eq).symm y)

theorem bV_of_read (k : Fin 16) (f : (cc0_scratch1 : Ref sig .tc).ty.Contents (Elt F)) (X : S256x256.Idx → Elt F .fp8e4m3)
    (h : (slotM k).view.read (Elt F) f = X) : ((bufM.access (slotR k) : View sig .tc _ _ _)).read (Elt F) f = bV X := by
  subst h; funext y
  unfold bV
  show _ = ((bufM.access (slotR k) : View sig .tc _ _ _)).read (Elt F) f (Shape.reshapeEquiv _ _)
  rw [Equiv.apply_symm_apply]
theorem wV_of_read (s : Fin 4) (f : (cc0_scratch2 : Ref sig .tc).ty.Contents (Elt F)) (X : S256x2048.Idx → Elt F .f32)
    (h : (wslotM s).view.read (Elt F) f = X) : ((wbufM.access (wslotR s) : View sig .tc _ _ _)).read (Elt F) f = wV X := by
  subst h; funext y
  unfold wV
  show _ = ((wbufM.access (wslotR s) : View sig .tc _ _ _)).read (Elt F) f (Shape.reshapeEquiv _ _)
  rw [Equiv.apply_symm_apply]

/-- The load of the block that landed at position `j`. -/
theorem loadRecv_step (c : Dev nD) (j : ℕ) (h1 : 1 ≤ j) {o2 : Fin 3 → Nat} {i2} (ho2 : o2 = ![(ord j).val, 0, 0]) {hl}
    {α : Type} {Q : α → sProp 𝕄} {k : (S1x256x256.Idx → Elt F .fp8e4m3) → Prog (TpuEff nD τ sig (Elt F) Λ₀ .tc) α} :
    RSt m c (j + 1)
      ⊢ iprop((RSt m c (j + 1) -∗ wp frame (wpE (defs₀ (F := F)) 𝒱₀ (c : Thread nD τ) none) Set.univ (k (bV (rowV m (c - ord j) c))) Q)
          -∗ wp frame (wpE (defs₀ (F := F)) 𝒱₀ (c : Thread nD τ) none) Set.univ
              (.op (.load bufM (Rect.unit (s := S16x256x256) o2 S1x256x256.size i2).toLoadRect hl) k) Q) := by
  subst ho2
  unfold RSt owns
  rw [bigSep_Ico_succ_top h1]
  iintro ⟨Hrest, ⟨Hat, ⟨%f, %hf, Hs⟩⟩, Hdone⟩ Hk
  iapply (wp_load_rect 𝒱₀ (c : Thread nD τ) none Set.univ (m := bufM) (r := slotR (ord j)) (S := (slotM (ord j)).view.set)
    (View.set_reshape _ _).ge) $$ Hs
  iintro Hs
  rw [bV_of_read _ _ _ hf]
  iapply Hk
  isplitl [Hrest]; · iexact Hrest
  isplitl [Hat Hs]
  · isplitl [Hat]; · iexact Hat
    iexists f; isplitr; · (ipureintro; exact hf)
    iexact Hs
  iexact Hdone

/-! ## The copies of `w`'s row blocks -/

/-- A copy of row block `b` of `w` into ring slot `s`, under way. -/
def wFl (c : Dev nD) (s : Fin 4) (b : Dev nD) : sProp 𝕄 :=
  Transfers.Flight EC (c : Thread nD τ) (.dma (wS s)) () NW iprop(owns (c : Thread nD τ) (wslotM s) fullShare (wrowV m c b) ∗ wPts m c b)
/-- A free ring slot. -/
def wFree (c : Dev nD) (s : Fin 4) : sProp 𝕄 := iprop(semVal (wCell c s) 0 ∗ anyAt c (wslotM s))

/-- `i` blocks used, `n` copies issued. -/
def WSt (c : Dev nD) (i n : ℕ) : sProp 𝕄 :=
  iprop((bigSep (Finset.Ico i n) fun p => wFl m c (slotOf p) (c - ord p)) ∗ (bigSep (Finset.Ico n (i + 4)) fun p => wFree c (slotOf p))
    ∗ (bigSep (Finset.Ico n 16) fun p => wPts m c (c - ord p)) ∗ (bigSep (Finset.Ico 0 i) fun p => wPts m c (c - ord p)))
/-- Block `i` come, and not yet used. -/
def WMid (c : Dev nD) (i n : ℕ) : sProp 𝕄 :=
  iprop((semVal (wCell c (slotOf i)) 0 ∗ owns (c : Thread nD τ) (wslotM (slotOf i)) fullShare (wrowV m c (c - ord i)))
    ∗ (bigSep (Finset.Ico (i + 1) n) fun p => wFl m c (slotOf p) (c - ord p)) ∗ (bigSep (Finset.Ico n (i + 4)) fun p => wFree c (slotOf p))
    ∗ (bigSep (Finset.Ico n 16) fun p => wPts m c (c - ord p)) ∗ (bigSep (Finset.Ico 0 (i + 1)) fun p => wPts m c (c - ord p)))

theorem slotOf_add (i : ℕ) : slotOf (i + 4) = slotOf i := by
  unfold slotOf; ext; show (i + 4) % 4 = i % 4; omega

/-- What a copy leaves: the ring slot holding the block, and the block itself. -/
theorem wcopied (c : Dev nD) (s : Fin 4) (b : Dev nD) (fd : Buf (Elt F) ((wslotM s).view.loc (c : Thread nD τ))) :
    iprop(((wslotM s).view.loc (c : Thread nD τ) ↦[(wslotM s).view.set]{fullShare}
        ((wslotM s).view.write (Elt F) fd ((ReadAs.same (Val := Elt F)).apply ((wrowM b).view.read (Elt F) (m ((c : Thread nD τ).loc main_arg1)))) Finset.univ))
        ∗ ((wrowM b).view.loc (c : Thread nD τ) ↦[(wrowM b).view.set]{fullShare} m ((c : Thread nD τ).loc main_arg1)))
      ⊢ (iprop(owns (c : Thread nD τ) (wslotM s) fullShare (wrowV m c b) ∗ wPts m c b) : sProp 𝕄) := by
  have h : (wslotM s).view.read (Elt F) ((wslotM s).view.write (Elt F) fd
      ((ReadAs.same (Val := Elt F)).apply ((wrowM b).view.read (Elt F) (m ((c : Thread nD τ).loc main_arg1)))) Finset.univ) = wrowV m c b :=
    View.read_write_univ _ _
  unfold owns wPts
  iintro ⟨Hd, Hs⟩
  isplitl [Hd]
  · iexists ((wslotM s).view.write (Elt F) fd
      ((ReadAs.same (Val := Elt F)).apply ((wrowM b).view.read (Elt F) (m ((c : Thread nD τ).loc main_arg1)))) Finset.univ)
    isplitr; · ipureintro; exact h
    iexact Hd
  iexact Hs

/-- A copy's issue. -/
theorem wissue_step (c : Dev nD) (i n : ℕ) (hin : i ≤ n) (hn4 : n < i + 4) (hn : n < 16)
    {o1 : Fin 2 → Nat} {i1} (ho1 : o1 = ![256 * (c - ord n).val, 0]) {o2 : Fin 3 → Nat} {i2} (ho2 : o2 = ![(slotOf n).val, 0, 0])
    {sm : DmaSem sig} (hsm : sm = wS (slotOf n)) {hs1 hs2 hq hsrc hdst hsem}
    {α : Type} {Q : α → sProp 𝕄} {k : PUnit → Prog (TpuEff nD τ sig (Elt F) Λ₀ .tc) α} :
    WSt m c i n
      ⊢ iprop((WSt m c i (n + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (wM.slice (Rect.unit (s := S4096x2048) o1 S256x2048.size i1) hs1)
                (.here ((wbufM.slice (Rect.unit (s := S4x256x2048) o2 S1x256x2048.size i2) hs2).squeeze S256x2048 hq)) (.dma sm) hsrc hdst hsem) k) Q) := by
  subst ho1; subst ho2; subst hsm
  unfold WSt
  rw [bigSep_Ico_succ_bot hn4, bigSep_Ico_succ_bot hn, bigSep_Ico_succ_top hin]
  iintro ⟨Hfl, ⟨Hf, Hfree⟩, ⟨Hw, Hws⟩, Hdone⟩ Hk
  unfold wFree anyAt
  icases Hf with ⟨Hv, ⟨%fd, Hd⟩⟩
  iapply (Transfers.wp_dmaLocal EC 𝒱₀ (c : Thread nD τ) none (src := wrowM (c - ord n)) (dst := wslotM (slotOf n)) (sm := .dma (wS (slotOf n)))
    (fs := m ((c : Thread nD τ).loc main_arg1)) (fd := fd) (Sd := (wslotM (slotOf n)).view.set) () NW rfl NW_pos subset_rfl) $$ [Hw Hd Hv]
  · isplitl [Hw]; · unfold wPts; iexact Hw
    isplitl [Hd]; · iexact Hd
    iexact Hv
  iintro HF
  iapply Hk
  isplitl [HF Hfl]
  · isplitl [HF]
    · unfold wFl
      iapply (Transfers.Flight_mono EC (c : Thread nD τ) (wcopied m c (slotOf n) (c - ord n) fd)) $$ HF
    iexact Hfl
  isplitl [Hfree]; · iexact Hfree
  isplitl [Hws]; · iexact Hws
  iexact Hdone

/-- The wait for copy `i`. -/
theorem wwait_step (c : Dev nD) (i n : ℕ) (hin : i < n) {sm : DmaSem sig} (hsm : sm = wS (slotOf i))
    {src : Memref sig .tc .hbm S256x2048 .f32} {o2 : Fin 3 → Nat} {i2} (ho2 : o2 = ![(slotOf i).val, 0, 0]) {hs2 hq hsrc hdst}
    {α : Type} {Q : α → sProp 𝕄} {k : PUnit → Prog (TpuEff nD τ sig (Elt F) Λ₀ .tc) α} :
    iprop(WSt m c i n ∗ owe c 0)
      ⊢ iprop((WMid m c i n ∗ owe c 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sm src ((wbufM.slice (Rect.unit (s := S4x256x2048) o2 S1x256x2048.size i2) hs2).squeeze S256x2048 hq) hsrc hdst) k) Q) := by
  subst hsm; subst ho2
  unfold WSt WMid owe
  rw [bigSep_Ico_succ_bot hin, bigSep_Ico_succ_top (Nat.zero_le i)]
  iintro ⟨⟨⟨Hf, Hfl⟩, Hfree, Hws, Hdone⟩, ⟨%W, HO⟩⟩ Hk
  unfold wFl
  iapply (Transfers.wp_waitLocal EC 𝒱₀ (c : Thread nD τ) none (sem := wS (slotOf i)) (dstw := wslotM (slotOf i)) () (N := NW) rfl (W := W)) $$ [Hf HO]
  · isplitl [Hf]; · iexact Hf
    iexact HO
  iintro ⟨⟨Ho, Hw⟩, Hv, HO⟩
  iapply Hk
  isplitr [HO]
  · isplitl [Hv Ho]; · isplitl [Hv] <;> iassumption
    isplitl [Hfl]; · iexact Hfl
    isplitl [Hfree]; · iexact Hfree
    isplitl [Hws]; · iexact Hws
    isplitl [Hw] <;> iassumption
  iexists _; iexact HO

/-- The load of block `i`, after which its slot is free. -/
theorem wload_step (c : Dev nD) (i n : ℕ) (hn : n ≤ i + 4) {o2 : Fin 3 → Nat} {i2} (ho2 : o2 = ![(slotOf i).val, 0, 0]) {hl}
    {α : Type} {Q : α → sProp 𝕄} {k : (S1x256x2048.Idx → Elt F .f32) → Prog (TpuEff nD τ sig (Elt F) Λ₀ .tc) α} :
    WMid m c i n
      ⊢ iprop((WSt m c (i + 1) n -∗ wp frame (wpE (defs₀ (F := F)) 𝒱₀ (c : Thread nD τ) none) Set.univ (k (wV (wrowV m c (c - ord i)))) Q)
          -∗ wp frame (wpE (defs₀ (F := F)) 𝒱₀ (c : Thread nD τ) none) Set.univ
              (.op (.load wbufM (Rect.unit (s := S4x256x2048) o2 S1x256x2048.size i2).toLoadRect hl) k) Q) := by
  subst ho2
  unfold WMid WSt owns
  rw [show i + 1 + 4 = (i + 4) + 1 by omega, bigSep_Ico_succ_top hn, slotOf_add]
  iintro ⟨⟨Hv, ⟨%f, %hf, Hs⟩⟩, Hfl, Hfree, Hws, Hdone⟩ Hk
  iapply (wp_load_rect 𝒱₀ (c : Thread nD τ) none Set.univ (m := wbufM) (r := wslotR (slotOf i)) (S := (wslotM (slotOf i)).view.set)
    (View.set_reshape _ _).ge) $$ Hs
  iintro Hs
  rw [wV_of_read _ _ _ hf]
  iapply Hk
  isplitl [Hfl]; · iexact Hfl
  isplitl [Hv Hs Hfree]
  · isplitl [Hv Hs]
    · unfold wFree anyAt
      isplitl [Hv]; · iexact Hv
      iexists f; iexact Hs
    iexact Hfree
  isplitl [Hws]; · iexact Hws
  iexact Hdone

end Cert.KProof

end
-- ==== Proof.Moves.lean ====
/-
# Names of the printed offsets, the values the body computes, and the loads and stores of its whole buffers
-/
module

public import proofs.«01_k».proof.Proof.Steps

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Offsets and devices -/

/-- The copies' source rows: block `c - r`. -/
theorem off1_sub (c : Dev nD) (r : Fin 16) : k0_off1 c (BitVec.ofNat 32 r.val) = ![256 * (c - r).val, 0] := by
  have h : c.val < 16 := c.isLt
  have e : (c.val + 16 - r.val) % 16 = (c - r).val := by show _ = (16 - r.val + c.val) % 16; omega
  rw [k0_off1_eq c r, e]
/-- The sends' source rows: block `c + r`. -/
theorem off2_add (c : Dev nD) (r : Fin 16) (hr : r ≠ 0) : k0_off2 c (BitVec.ofNat 32 r.val) = ![256 * (c + r).val, 0] := by
  have h0 : r.val ≠ 0 := fun h => hr (Fin.ext h)
  have h := k0_off2_eq c ⟨r.val - 1, by omega⟩
  have e1 : 1 + (r.val - 1) = r.val := by omega
  have e : (c.val + (r.val - 1) + 1) % 16 = (c + r).val := by show _ = (c.val + r.val) % 16; omega
  dsimp only at h
  rw [e1, e] at h; exact h
/-- The target of the `j`-th signal. -/
theorem sigTo (c : Dev nD) (j : ℕ) (h1 : 1 ≤ j) (h16 : j < 16) {n : ℕ} {hn : n < nD} (h : n = (c.val + j) % 16) : (⟨n, hn⟩ : Dev nD) = c - neg j := by
  apply Fin.ext; subst h
  show (c.val + j) % 16 = (16 - (neg j).val + c.val) % 16
  have e : (neg j).val = 16 - j := by interval_cases j <;> rfl
  rw [e]; omega

/-! ## Values -/

/-- Device `c`'s own rows of its block of `x`. -/
def xrowV (c : Dev nD) : S256x256.Idx → Elt F .f32 := ((xM.access (rowR c) : View sig .tc _ _ _)).read (Elt F) (xstg m c)
/-- The one index of a scale. -/
abbrev i1 : S1.Idx := Shape.Idx.first (by decide)
/-- The two scales, as staged, and their values. -/
def sxstg (c : Dev nD) : (cc0_stg1_0 : Ref sig .tc).ty.Contents (Elt F) := (win0_1.blk (0 : Fin 1)).view.read (Elt F) (m ((c : Thread nD τ).loc main_arg2))
def swstg (c : Dev nD) : (cc0_stg2_0 : Ref sig .tc).ty.Contents (Elt F) := (win0_2.blk (0 : Fin 1)).view.read (Elt F) (m ((c : Thread nD τ).loc main_arg3))
def sxV (c : Dev nD) : Elt F .f32 := sxstg m c i1
def swV (c : Dev nD) : Elt F .f32 := swstg m c i1

/-- The accumulator after position `i`. -/
def accV (c : Dev nD) : ℕ → FVec F S256x2048 .f32
  | 0 => k0_pay3 (xrowV m c) (wV (wrowV m c (c - ord 0)))
  | i + 1 => k0_pay4 (accV c i) (bV (rowV m (c - ord (i + 1)) c)) (wV (wrowV m c (c - ord (i + 1))))
/-- What device `c` stores. -/
def outAt (c : Dev nD) : (cc0_stg3_0 : Ref sig .tc).ty.Contents (Elt F) :=
  k0_pay1 (k0_pay18 (accV m c 15) (sxV m c) (swV m c)) (Scalar.ofBits .f32 0x42700000#32) (k0_pay19 (accV m c 15) (sxV m c) (swV m c))

/-! ## The whole buffers -/

def xPts (c : Dev nD) : sProp 𝕄 := ((c : Thread nD τ).loc cc0_stg0_0) ↦{fullShare} xstg m c
def anyXs (c : Dev nD) : sProp 𝕄 := iprop(∃ f : Buf (Elt F) ((c : Thread nD τ).loc cc0_scratch0), ((c : Thread nD τ).loc cc0_scratch0) ↦{fullShare} f)
def xsPts (c : Dev nD) : sProp 𝕄 := ((c : Thread nD τ).loc cc0_scratch0) ↦{fullShare} xsB m c
def sxPts (c : Dev nD) : sProp 𝕄 := ((c : Thread nD τ).loc cc0_stg1_0) ↦{fullShare} sxstg m c
def swPts (c : Dev nD) : sProp 𝕄 := ((c : Thread nD τ).loc cc0_stg2_0) ↦{fullShare} swstg m c
def anyOut (c : Dev nD) : sProp 𝕄 := iprop(∃ f : Buf (Elt F) ((c : Thread nD τ).loc cc0_stg3_0), ((c : Thread nD τ).loc cc0_stg3_0) ↦{fullShare} f)
def outPts (c : Dev nD) : sProp 𝕄 := ((c : Thread nD τ).loc cc0_stg3_0) ↦{fullShare} outAt m c

theorem hz2 : (![0, 0] : Fin 2 → Nat) = fun _ => 0 := by funext a; fin_cases a <;> rfl
theorem hz1 : (![0] : Fin 1 → Nat) = fun _ => 0 := by funext a; fin_cases a; rfl

section
variable (c : Dev nD) {α : Type}

/-- The load of the whole block of `x`. -/
theorem loadX_step {i hl} {Q : α → sProp 𝕄} {k : (S4096x256.Idx → Elt F .f32) → Prog (TpuEff nD τ sig (Elt F) Λ₀ .tc) α} :
    xPts m c ⊢ iprop((xPts m c -∗ wp frame (wpE (defs₀ (F := F)) 𝒱₀ (c : Thread nD τ) none) Set.univ (k (xstg m c)) Q)
      -∗ wp frame (wpE (defs₀ (F := F)) 𝒱₀ (c : Thread nD τ) none) Set.univ
          (.op (.load xM (Rect.unit (s := S4096x256) ![0, 0] S4096x256.size i).toLoadRect hl) k) Q) := by
  iintro H Hk
  unfold xPts
  iapply (wp_load 𝒱₀ (c : Thread nD τ) none Set.univ (m := xM) (Finset.subset_univ _)) $$ H; iintro H
  rw [show (xM : Memref sig .tc .vmem S4096x256 .f32).view.readAt (Elt F) (Rect.unit (s := S4096x256) ![0, 0] S4096x256.size i).toLoadRect (xstg m c) = xstg m c
    from Memref.readAt_unit_zero (Elt F) cc0_stg0_0 hz2 _ _]
  iapply Hk; iexact H

/-- The load of the cast's buffer, unused, and the store of the cast. -/
theorem castX_step {i i' hl hx hm} {Q : α → sProp 𝕄} {k : PUnit → Prog (TpuEff nD τ sig (Elt F) Λ₀ .tc) α} :
    anyXs c ⊢ iprop((xsPts m c -∗ wp frame (wpE (defs₀ (F := F)) 𝒱₀ (c : Thread nD τ) none) Set.univ (k ⟨⟩) Q)
      -∗ wp frame (wpE (defs₀ (F := F)) 𝒱₀ (c : Thread nD τ) none) Set.univ
          (.op (.load xsM (Rect.unit (s := S4096x256) ![0, 0] S4096x256.size i).toLoadRect hl) fun _ =>
            .op (.store xsM (Rect.unit (s := S4096x256) ![0, 0] S4096x256.size i') (k0_pay2 (xstg m c)) Finset.univ hx hm) k) Q) := by
  unfold anyXs
  iintro ⟨%f, H⟩ Hk
  iapply (wp_load 𝒱₀ (c : Thread nD τ) none Set.univ (m := xsM) (Finset.subset_univ _)) $$ H; iintro H
  iapply (wp_store 𝒱₀ (c : Thread nD τ) none Set.univ (m := xsM) (r := Rect.unit (s := S4096x256) ![0, 0] S4096x256.size i') (Mk := Finset.univ) (Finset.subset_univ _)) $$ H; iintro H
  rw [show ((xsM : Memref sig .tc .vmem S4096x256 .fp8e4m3).access (Rect.unit (s := S4096x256) ![0, 0] S4096x256.size i') : View sig .tc _ _ _).write (Elt F) f (k0_pay2 (xstg m c)) Finset.univ = xsB m c
    from Memref.write_access_unit_zero_univ (Elt F) cc0_scratch0 hz2 _ f _]
  iapply Hk
  unfold xsPts; iexact H

/-- The load of the device's own rows. -/
theorem loadRows_step {o : Fin 2 → Nat} (ho : o = ![256 * c.val, 0]) {i hl} {Q : α → sProp 𝕄} {k : (S256x256.Idx → Elt F .f32) → Prog (TpuEff nD τ sig (Elt F) Λ₀ .tc) α} :
    xPts m c ⊢ iprop((xPts m c -∗ wp frame (wpE (defs₀ (F := F)) 𝒱₀ (c : Thread nD τ) none) Set.univ (k (xrowV m c)) Q)
      -∗ wp frame (wpE (defs₀ (F := F)) 𝒱₀ (c : Thread nD τ) none) Set.univ
          (.op (.load xM (Rect.unit (s := S4096x256) o S256x256.size i).toLoadRect hl) k) Q) := by
  subst ho
  exact wp_load_rect 𝒱₀ (c : Thread nD τ) none Set.univ (m := xM) (r := rowR c) (f := xstg m c) (Finset.subset_univ _)

/-- The loads of the two scales. -/
theorem loadSx_step {i hl} {Q : α → sProp 𝕄} {k : (S1.Idx → Elt F .f32) → Prog (TpuEff nD τ sig (Elt F) Λ₀ .tc) α} :
    sxPts m c ⊢ iprop((sxPts m c -∗ wp frame (wpE (defs₀ (F := F)) 𝒱₀ (c : Thread nD τ) none) Set.univ (k (sxstg m c)) Q)
      -∗ wp frame (wpE (defs₀ (F := F)) 𝒱₀ (c : Thread nD τ) none) Set.univ
          (.op (.load (Memref.whole cc0_stg1_0 : Memref sig .tc .smem S1 .f32) (Rect.unit (s := S1) ![0] S1.size i).toLoadRect hl) k) Q) := by
  iintro H Hk
  unfold sxPts
  iapply (wp_load 𝒱₀ (c : Thread nD τ) none Set.univ (m := (Memref.whole cc0_stg1_0 : Memref sig .tc .smem S1 .f32)) (Finset.subset_univ _)) $$ H; iintro H
  rw [show (Memref.whole cc0_stg1_0 : Memref sig .tc .smem S1 .f32).view.readAt (Elt F) (Rect.unit (s := S1) ![0] S1.size i).toLoadRect (sxstg m c) = sxstg m c
    from Memref.readAt_unit_zero (Elt F) cc0_stg1_0 hz1 _ _]
  iapply Hk; iexact H
theorem loadSw_step {i hl} {Q : α → sProp 𝕄} {k : (S1.Idx → Elt F .f32) → Prog (TpuEff nD τ sig (Elt F) Λ₀ .tc) α} :
    swPts m c ⊢ iprop((swPts m c -∗ wp frame (wpE (defs₀ (F := F)) 𝒱₀ (c : Thread nD τ) none) Set.univ (k (swstg m c)) Q)
      -∗ wp frame (wpE (defs₀ (F := F)) 𝒱₀ (c : Thread nD τ) none) Set.univ
          (.op (.load (Memref.whole cc0_stg2_0 : Memref sig .tc .smem S1 .f32) (Rect.unit (s := S1) ![0] S1.size i).toLoadRect hl) k) Q) := by
  iintro H Hk
  unfold swPts
  iapply (wp_load 𝒱₀ (c : Thread nD τ) none Set.univ (m := (Memref.whole cc0_stg2_0 : Memref sig .tc .smem S1 .f32)) (Finset.subset_univ _)) $$ H; iintro H
  rw [show (Memref.whole cc0_stg2_0 : Memref sig .tc .smem S1 .f32).view.readAt (Elt F) (Rect.unit (s := S1) ![0] S1.size i).toLoadRect (swstg m c) = swstg m c
    from Memref.readAt_unit_zero (Elt F) cc0_stg2_0 hz1 _ _]
  iapply Hk; iexact H

/-- The load of the result's buffer, unused, and the store of the result. -/
theorem storeOut_step {i i' hl hx hm} {w : S256x2048.Idx → Elt F .f32} (hw : w = outAt m c) {Q : α → sProp 𝕄} {k : PUnit → Prog (TpuEff nD τ sig (Elt F) Λ₀ .tc) α} :
    anyOut c ⊢ iprop((outPts m c -∗ wp frame (wpE (defs₀ (F := F)) 𝒱₀ (c : Thread nD τ) none) Set.univ (k ⟨⟩) Q)
      -∗ wp frame (wpE (defs₀ (F := F)) 𝒱₀ (c : Thread nD τ) none) Set.univ
          (.op (.load oM (Rect.unit (s := S256x2048) ![0, 0] S256x2048.size i).toLoadRect hl) fun _ =>
            .op (.store oM (Rect.unit (s := S256x2048) ![0, 0] S256x2048.size i') w Finset.univ hx hm) k) Q) := by
  subst hw
  unfold anyOut
  iintro ⟨%f, H⟩ Hk
  iapply (wp_load 𝒱₀ (c : Thread nD τ) none Set.univ (m := oM) (Finset.subset_univ _)) $$ H; iintro H
  iapply (wp_store 𝒱₀ (c : Thread nD τ) none Set.univ (m := oM) (r := Rect.unit (s := S256x2048) ![0, 0] S256x2048.size i') (Mk := Finset.univ) (Finset.subset_univ _)) $$ H; iintro H
  rw [show ((oM : Memref sig .tc .vmem S256x2048 .f32).access (Rect.unit (s := S256x2048) ![0, 0] S256x2048.size i') : View sig .tc _ _ _).write (Elt F) f (outAt m c) Finset.univ = outAt m c
    from Memref.write_access_unit_zero_univ (Elt F) cc0_stg3_0 hz2 _ f _]
  iapply Hk
  unfold outPts; iexact H

end

end Cert.KProof

end
-- ==== Proof.PartsA.lean ====
/-
# The body's parts: the copies, the cast and the barrier
-/
module

public import proofs.«01_k».proof.Proof.Moves

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- The first two copies of `w` blocks are issued. -/
theorem part1 (c : Dev nD) {Q : (Σ' (d0 : Dev nD), BitVec 32) → sProp 𝕄} :
    iprop(WSt m c 0 0 ∗ (WSt m c 0 2 -∗ ∀ v, Q ⟨c, v⟩))
      ⊢ wp frame (wpE (defs₀ (F := F)) 𝒱₀ (c : Thread nD τ) none) Set.univ
          (k0_part1 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5) Q := by
  rw [k0_part1_eq_skeleton]; unfold k0_part1_skel
  simp only [semSignalWord, semWaitWord, smemLoad, smemLoadElt, Prog.lift, Prog.bind_op, Prog.bind_ret, Prog.pure_eq_ret, wp_deviceId]
  iintro ⟨HW, Hk⟩
  iapply (wissue_step m c 0 0 (by omega) (by omega) (by omega) (o1 := k0_off1 c 0#32) (off1_sub c 0) (o2 := ![0, 0, 0]) rfl (sm := wS 0) rfl) $$ HW; iintro HW
  iapply (wissue_step m c 0 1 (by omega) (by omega) (by omega) (o1 := k0_off1 c 1#32) (off1_sub c 1) (o2 := ![1, 0, 0]) rfl (sm := wS 1) rfl) $$ HW; iintro HW
  rw [wp_ret]; imodintro
  iapply Hk $$ [HW]
  iexact HW

/-- The third copy; the cast is stored; the first four signals. -/
theorem part2 (c : Dev nD) (v2 : BitVec 32) {Q : (Σ' (v36 : Sems sig S_), BitVec 32) → sProp 𝕄} :
    iprop(records m K ∗ WSt m c 0 2 ∗ xPts m c ∗ anyXs c ∗ SigSt c 1 ∗ (WSt m c 0 3 ∗ xPts m c ∗ xsPts m c ∗ SigSt c 5 -∗ ∀ v, Q ⟨SemArray.scalar (sig.barrier 0 rfl), v⟩))
      ⊢ wp frame (wpE (defs₀ (F := F)) 𝒱₀ (c : Thread nD τ) none) Set.univ
          (k0_part2 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2) Q := by
  rw [k0_part2_eq_skeleton]; unfold k0_part2_skel
  simp only [semSignalWord, semWaitWord, smemLoad, smemLoadElt, Prog.lift, Prog.bind_op, Prog.bind_ret, Prog.pure_eq_ret, wp_deviceId]
  iintro ⟨#HR, HW, Hx, Hxs, HB, Hk⟩
  iapply (wissue_step m c 0 2 (by omega) (by omega) (by omega) (o1 := k0_off1 c 15#32) (off1_sub c 15) (o2 := ![2, 0, 0]) rfl (sm := wS 2) rfl) $$ HW; iintro HW
  iapply (loadX_step m c) $$ Hx; iintro Hx
  iapply (castX_step m c) $$ Hxs; iintro Hxs
  iapply (signal_step m K c (j := 1) (by omega) (by omega) (n := ⟨k0_dev1 c, k0_dev1_lt c⟩) (sigTo c 1 (by omega) (by omega) (k0_dev1_eq c)) (sm := barS) rfl (by decide)) $$ [HB]
  · isplitr <;> iassumption
  iintro HB
  iapply (signal_step m K c (j := 2) (by omega) (by omega) (n := ⟨k0_dev2 c, k0_dev2_lt c⟩) (sigTo c 2 (by omega) (by omega) (k0_dev2_eq c)) (sm := barS) rfl (by decide)) $$ [HB]
  · isplitr <;> iassumption
  iintro HB
  iapply (signal_step m K c (j := 3) (by omega) (by omega) (n := ⟨k0_dev3 c, k0_dev3_lt c⟩) (sigTo c 3 (by omega) (by omega) (k0_dev3_eq c)) (sm := barS) rfl (by decide)) $$ [HB]
  · isplitr <;> iassumption
  iintro HB
  iapply (signal_step m K c (j := 4) (by omega) (by omega) (n := ⟨k0_dev4 c, k0_dev4_lt c⟩) (sigTo c 4 (by omega) (by omega) (k0_dev4_eq c)) (sm := barS) rfl (by decide)) $$ [HB]
  · isplitr <;> iassumption
  iintro HB
  rw [wp_ret]; imodintro
  iapply Hk $$ [HW Hx Hxs HB]
  isplitl [HW]; · iexact HW
  isplitl [Hx]; · iexact Hx
  isplitl [Hxs]; · iexact Hxs
  iexact HB

/-- Signals 5 to 10. -/
theorem part3 (c : Dev nD) (v2 v54 : BitVec 32) {Q : BitVec 32 → sProp 𝕄} :
    iprop(records m K ∗ SigSt c 5 ∗ (SigSt c 11 -∗ ∀ v, Q v))
      ⊢ wp frame (wpE (defs₀ (F := F)) 𝒱₀ (c : Thread nD τ) none) Set.univ
          (k0_part3 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 (SemArray.scalar (sig.barrier 0 rfl)) v54) Q := by
  rw [k0_part3_eq_skeleton]; unfold k0_part3_skel
  simp only [semSignalWord, semWaitWord, smemLoad, smemLoadElt, Prog.lift, Prog.bind_op, Prog.bind_ret, Prog.pure_eq_ret, wp_deviceId]
  iintro ⟨#HR, HB, Hk⟩
  iapply (signal_step m K c (j := 5) (by omega) (by omega) (n := ⟨k0_dev5 c, k0_dev5_lt c⟩) (sigTo c 5 (by omega) (by omega) (k0_dev5_eq c)) (sm := barS) rfl (by decide)) $$ [HB]
  · isplitr <;> iassumption
  iintro HB
  iapply (signal_step m K c (j := 6) (by omega) (by omega) (n := ⟨k0_dev6 c, k0_dev6_lt c⟩) (sigTo c 6 (by omega) (by omega) (k0_dev6_eq c)) (sm := barS) rfl (by decide)) $$ [HB]
  · isplitr <;> iassumption
  iintro HB
  iapply (signal_step m K c (j := 7) (by omega) (by omega) (n := ⟨k0_dev7 c, k0_dev7_lt c⟩) (sigTo c 7 (by omega) (by omega) (k0_dev7_eq c)) (sm := barS) rfl (by decide)) $$ [HB]
  · isplitr <;> iassumption
  iintro HB
  iapply (signal_step m K c (j := 8) (by omega) (by omega) (n := ⟨k0_dev8 c, k0_dev8_lt c⟩) (sigTo c 8 (by omega) (by omega) (k0_dev8_eq c)) (sm := barS) rfl (by decide)) $$ [HB]
  · isplitr <;> iassumption
  iintro HB
  iapply (signal_step m K c (j := 9) (by omega) (by omega) (n := ⟨k0_dev9 c, k0_dev9_lt c⟩) (sigTo c 9 (by omega) (by omega) (k0_dev9_eq c)) (sm := barS) rfl (by decide)) $$ [HB]
  · isplitr <;> iassumption
  iintro HB
  iapply (signal_step m K c (j := 10) (by omega) (by omega) (n := ⟨k0_dev10 c, k0_dev10_lt c⟩) (sigTo c 10 (by omega) (by omega) (k0_dev10_eq c)) (sm := barS) rfl (by decide)) $$ [HB]
  · isplitr <;> iassumption
  iintro HB
  rw [wp_ret]; imodintro
  iapply Hk $$ [HB]
  iexact HB

/-- Signals 11 to 15, and the barrier wait. -/
theorem part4 (c : Dev nD) (v2 v78 : BitVec 32) {Q : (Σ' (v98 : BitVec 32) (v100 : BitVec 32), BitVec 32) → sProp 𝕄} :
    iprop(records m K ∗ levAts L lv ∗ SigSt c 11 ∗ cred (tallyAt (barCell c) () 15) ∗ atPos ER (barCell c) 0 ∅ 0 ∗ (owe c (OR c 1) ∗ atPos ER (barCell c) 1 ∅ 0 ∗ bigSep (Finset.univ.erase (0 : Fin 16)) (barPay c) -∗ ∀ v, Q v))
      ⊢ wp frame (wpE (defs₀ (F := F)) 𝒱₀ (c : Thread nD τ) none) Set.univ
          (k0_part4 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 (SemArray.scalar (sig.barrier 0 rfl)) v78) Q := by
  rw [k0_part4_eq_skeleton]; unfold k0_part4_skel
  simp only [semSignalWord, semWaitWord, smemLoad, smemLoadElt, Prog.lift, Prog.bind_op, Prog.bind_ret, Prog.pure_eq_ret, wp_deviceId]
  iintro ⟨#HR, #Hlev, HB, Hc, Hat, Hk⟩
  iapply (signal_step m K c (j := 11) (by omega) (by omega) (n := ⟨k0_dev11 c, k0_dev11_lt c⟩) (sigTo c 11 (by omega) (by omega) (k0_dev11_eq c)) (sm := barS) rfl (by decide)) $$ [HB]
  · isplitr <;> iassumption
  iintro HB
  iapply (signal_step m K c (j := 12) (by omega) (by omega) (n := ⟨k0_dev12 c, k0_dev12_lt c⟩) (sigTo c 12 (by omega) (by omega) (k0_dev12_eq c)) (sm := barS) rfl (by decide)) $$ [HB]
  · isplitr <;> iassumption
  iintro HB
  iapply (signal_step m K c (j := 13) (by omega) (by omega) (n := ⟨k0_dev13 c, k0_dev13_lt c⟩) (sigTo c 13 (by omega) (by omega) (k0_dev13_eq c)) (sm := barS) rfl (by decide)) $$ [HB]
  · isplitr <;> iassumption
  iintro HB
  iapply (signal_step m K c (j := 14) (by omega) (by omega) (n := ⟨k0_dev14 c, k0_dev14_lt c⟩) (sigTo c 14 (by omega) (by omega) (k0_dev14_eq c)) (sm := barS) rfl (by decide)) $$ [HB]
  · isplitr <;> iassumption
  iintro HB
  iapply (signal_step m K c (j := 15) (by omega) (by omega) (n := ⟨k0_dev15 c, k0_dev15_lt c⟩) (sigTo c 15 (by omega) (by omega) (k0_dev15_eq c)) (sm := barS) rfl (by decide)) $$ [HB]
  · isplitr <;> iassumption
  iintro HB
  iapply (barrier_step m K c (sm := barS) rfl (by decide)) $$ [HB Hc Hat]
  · isplitr; · iexact HR
    isplitr; · iexact Hlev
    isplitl [HB]; · iexact HB
    isplitl [Hc] <;> iassumption
  iintro ⟨HO, Hat, Hp⟩
  rw [wp_ret]; imodintro
  iapply Hk $$ [HO Hat Hp]
  isplitl [HO]; · iexact HO
  isplitl [Hat]; · iexact Hat
  iexact Hp

end Cert.KProof

end
-- ==== Proof.PartsB.lean ====
/-
# The body's parts: the sends
-/
module

public import proofs.«01_k».proof.Proof.Moves

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- The sends of positions 1 to 3. -/
theorem part5 (c : Dev nD) (v2 v100 c0 : BitVec 32) {Q : (Σ' (v110 : BitVec 32), BitVec 32) → sProp 𝕄} :
    iprop(records m K ∗ SSt m c 1 ∗ (SSt m c 4 -∗ ∀ v, Q v))
      ⊢ wp frame (wpE (defs₀ (F := F)) 𝒱₀ (c : Thread nD τ) none) Set.univ
          (k0_part5 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v100 c0) Q := by
  rw [k0_part5_eq_skeleton]; unfold k0_part5_skel
  simp only [semSignalWord, semWaitWord, smemLoad, smemLoadElt, Prog.lift, Prog.bind_op, Prog.bind_ret, Prog.pure_eq_ret, wp_deviceId]
  iintro ⟨#HR, HS, Hk⟩
  iapply (send_step m K c 1 (by omega) (by omega) (n := ⟨k0_dev16 c, k0_dev16_lt c⟩) (Fin.ext (k0_dev16_eq c)) (o1 := k0_off2 c 1#32) (off2_add c 1 (by decide)) (o2 := ![1, 0, 0]) rfl (sS := sendS 1) (sR := recvS 1) rfl rfl) $$ [HS]
  · isplitr <;> iassumption
  iintro HS
  iapply (send_step m K c 2 (by omega) (by omega) (n := ⟨k0_dev17 c, k0_dev17_lt c⟩) (Fin.ext (k0_dev17_eq c)) (o1 := k0_off2 c 15#32) (off2_add c 15 (by decide)) (o2 := ![15, 0, 0]) rfl (sS := sendS 15) (sR := recvS 15) rfl rfl) $$ [HS]
  · isplitr <;> iassumption
  iintro HS
  iapply (send_step m K c 3 (by omega) (by omega) (n := ⟨k0_dev18 c, k0_dev18_lt c⟩) (Fin.ext (k0_dev18_eq c)) (o1 := k0_off2 c 2#32) (off2_add c 2 (by decide)) (o2 := ![2, 0, 0]) rfl (sS := sendS 2) (sR := recvS 2) rfl rfl) $$ [HS]
  · isplitr <;> iassumption
  iintro HS
  rw [wp_ret]; imodintro
  iapply Hk $$ [HS]
  iexact HS

/-- The sends of positions 4 to 5. -/
theorem part6 (c : Dev nD) (v2 : BitVec 32) {Q : (Σ' (v134 : BitVec 32) (v146 : BitVec 32) (v158 : BitVec 32) (v160 : BitVec 32), BitVec 32) → sProp 𝕄} :
    iprop(records m K ∗ SSt m c 4 ∗ (SSt m c 6 -∗ ∀ v, Q v))
      ⊢ wp frame (wpE (defs₀ (F := F)) 𝒱₀ (c : Thread nD τ) none) Set.univ
          (k0_part6 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2) Q := by
  rw [k0_part6_eq_skeleton]; unfold k0_part6_skel
  simp only [semSignalWord, semWaitWord, smemLoad, smemLoadElt, Prog.lift, Prog.bind_op, Prog.bind_ret, Prog.pure_eq_ret, wp_deviceId]
  iintro ⟨#HR, HS, Hk⟩
  iapply (send_step m K c 4 (by omega) (by omega) (n := ⟨k0_dev19 c, k0_dev19_lt c⟩) (Fin.ext (k0_dev19_eq c)) (o1 := k0_off2 c 14#32) (off2_add c 14 (by decide)) (o2 := ![14, 0, 0]) rfl (sS := sendS 14) (sR := recvS 14) rfl rfl) $$ [HS]
  · isplitr <;> iassumption
  iintro HS
  iapply (send_step m K c 5 (by omega) (by omega) (n := ⟨k0_dev20 c, k0_dev20_lt c⟩) (Fin.ext (k0_dev20_eq c)) (o1 := k0_off2 c 3#32) (off2_add c 3 (by decide)) (o2 := ![3, 0, 0]) rfl (sS := sendS 3) (sR := recvS 3) rfl rfl) $$ [HS]
  · isplitr <;> iassumption
  iintro HS
  rw [wp_ret]; imodintro
  iapply Hk $$ [HS]
  iexact HS

/-- The sends of positions 6 to 8. -/
theorem part7 (c : Dev nD) (v2 v160 c0 : BitVec 32) {Q : (Σ' (v170 : BitVec 32), BitVec 32) → sProp 𝕄} :
    iprop(records m K ∗ SSt m c 6 ∗ (SSt m c 9 -∗ ∀ v, Q v))
      ⊢ wp frame (wpE (defs₀ (F := F)) 𝒱₀ (c : Thread nD τ) none) Set.univ
          (k0_part7 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v160 c0) Q := by
  rw [k0_part7_eq_skeleton]; unfold k0_part7_skel
  simp only [semSignalWord, semWaitWord, smemLoad, smemLoadElt, Prog.lift, Prog.bind_op, Prog.bind_ret, Prog.pure_eq_ret, wp_deviceId]
  iintro ⟨#HR, HS, Hk⟩
  iapply (send_step m K c 6 (by omega) (by omega) (n := ⟨k0_dev21 c, k0_dev21_lt c⟩) (Fin.ext (k0_dev21_eq c)) (o1 := k0_off2 c 13#32) (off2_add c 13 (by decide)) (o2 := ![13, 0, 0]) rfl (sS := sendS 13) (sR := recvS 13) rfl rfl) $$ [HS]
  · isplitr <;> iassumption
  iintro HS
  iapply (send_step m K c 7 (by omega) (by omega) (n := ⟨k0_dev22 c, k0_dev22_lt c⟩) (Fin.ext (k0_dev22_eq c)) (o1 := k0_off2 c 4#32) (off2_add c 4 (by decide)) (o2 := ![4, 0, 0]) rfl (sS := sendS 4) (sR := recvS 4) rfl rfl) $$ [HS]
  · isplitr <;> iassumption
  iintro HS
  iapply (send_step m K c 8 (by omega) (by omega) (n := ⟨k0_dev23 c, k0_dev23_lt c⟩) (Fin.ext (k0_dev23_eq c)) (o1 := k0_off2 c 12#32) (off2_add c 12 (by decide)) (o2 := ![12, 0, 0]) rfl (sS := sendS 12) (sR := recvS 12) rfl rfl) $$ [HS]
  · isplitr <;> iassumption
  iintro HS
  rw [wp_ret]; imodintro
  iapply Hk $$ [HS]
  iexact HS

/-- The sends of positions 9 to 10. -/
theorem part8 (c : Dev nD) (v2 : BitVec 32) {Q : (Σ' (v194 : BitVec 32) (v206 : BitVec 32) (v218 : BitVec 32) (v220 : BitVec 32), BitVec 32) → sProp 𝕄} :
    iprop(records m K ∗ SSt m c 9 ∗ (SSt m c 11 -∗ ∀ v, Q v))
      ⊢ wp frame (wpE (defs₀ (F := F)) 𝒱₀ (c : Thread nD τ) none) Set.univ
          (k0_part8 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2) Q := by
  rw [k0_part8_eq_skeleton]; unfold k0_part8_skel
  simp only [semSignalWord, semWaitWord, smemLoad, smemLoadElt, Prog.lift, Prog.bind_op, Prog.bind_ret, Prog.pure_eq_ret, wp_deviceId]
  iintro ⟨#HR, HS, Hk⟩
  iapply (send_step m K c 9 (by omega) (by omega) (n := ⟨k0_dev24 c, k0_dev24_lt c⟩) (Fin.ext (k0_dev24_eq c)) (o1 := k0_off2 c 5#32) (off2_add c 5 (by decide)) (o2 := ![5, 0, 0]) rfl (sS := sendS 5) (sR := recvS 5) rfl rfl) $$ [HS]
  · isplitr <;> iassumption
  iintro HS
  iapply (send_step m K c 10 (by omega) (by omega) (n := ⟨k0_dev25 c, k0_dev25_lt c⟩) (Fin.ext (k0_dev25_eq c)) (o1 := k0_off2 c 11#32) (off2_add c 11 (by decide)) (o2 := ![11, 0, 0]) rfl (sS := sendS 11) (sR := recvS 11) rfl rfl) $$ [HS]
  · isplitr <;> iassumption
  iintro HS
  rw [wp_ret]; imodintro
  iapply Hk $$ [HS]
  iexact HS

/-- The sends of positions 11 to 13. -/
theorem part9 (c : Dev nD) (v2 v220 c0 : BitVec 32) {Q : (Σ' (v230 : BitVec 32), BitVec 32) → sProp 𝕄} :
    iprop(records m K ∗ SSt m c 11 ∗ (SSt m c 14 -∗ ∀ v, Q v))
      ⊢ wp frame (wpE (defs₀ (F := F)) 𝒱₀ (c : Thread nD τ) none) Set.univ
          (k0_part9 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v220 c0) Q := by
  rw [k0_part9_eq_skeleton]; unfold k0_part9_skel
  simp only [semSignalWord, semWaitWord, smemLoad, smemLoadElt, Prog.lift, Prog.bind_op, Prog.bind_ret, Prog.pure_eq_ret, wp_deviceId]
  iintro ⟨#HR, HS, Hk⟩
  iapply (send_step m K c 11 (by omega) (by omega) (n := ⟨k0_dev26 c, k0_dev26_lt c⟩) (Fin.ext (k0_dev26_eq c)) (o1 := k0_off2 c 6#32) (off2_add c 6 (by decide)) (o2 := ![6, 0, 0]) rfl (sS := sendS 6) (sR := recvS 6) rfl rfl) $$ [HS]
  · isplitr <;> iassumption
  iintro HS
  iapply (send_step m K c 12 (by omega) (by omega) (n := ⟨k0_dev27 c, k0_dev27_lt c⟩) (Fin.ext (k0_dev27_eq c)) (o1 := k0_off2 c 10#32) (off2_add c 10 (by decide)) (o2 := ![10, 0, 0]) rfl (sS := sendS 10) (sR := recvS 10) rfl rfl) $$ [HS]
  · isplitr <;> iassumption
  iintro HS
  iapply (send_step m K c 13 (by omega) (by omega) (n := ⟨k0_dev28 c, k0_dev28_lt c⟩) (Fin.ext (k0_dev28_eq c)) (o1 := k0_off2 c 7#32) (off2_add c 7 (by decide)) (o2 := ![7, 0, 0]) rfl (sS := sendS 7) (sR := recvS 7) rfl rfl) $$ [HS]
  · isplitr <;> iassumption
  iintro HS
  rw [wp_ret]; imodintro
  iapply Hk $$ [HS]
  iexact HS

/-- The sends of positions 14 to 15. -/
theorem part10 (c : Dev nD) (v2 : BitVec 32) {Q : (Σ' (v254 : BitVec 32), BitVec 32) → sProp 𝕄} :
    iprop(records m K ∗ SSt m c 14 ∗ (SSt m c 16 -∗ ∀ v, Q v))
      ⊢ wp frame (wpE (defs₀ (F := F)) 𝒱₀ (c : Thread nD τ) none) Set.univ
          (k0_part10 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2) Q := by
  rw [k0_part10_eq_skeleton]; unfold k0_part10_skel
  simp only [semSignalWord, semWaitWord, smemLoad, smemLoadElt, Prog.lift, Prog.bind_op, Prog.bind_ret, Prog.pure_eq_ret, wp_deviceId]
  iintro ⟨#HR, HS, Hk⟩
  iapply (send_step m K c 14 (by omega) (by omega) (n := ⟨k0_dev29 c, k0_dev29_lt c⟩) (Fin.ext (k0_dev29_eq c)) (o1 := k0_off2 c 9#32) (off2_add c 9 (by decide)) (o2 := ![9, 0, 0]) rfl (sS := sendS 9) (sR := recvS 9) rfl rfl) $$ [HS]
  · isplitr <;> iassumption
  iintro HS
  iapply (send_step m K c 15 (by omega) (by omega) (n := ⟨k0_dev30 c, k0_dev30_lt c⟩) (Fin.ext (k0_dev30_eq c)) (o1 := k0_off2 c 8#32) (off2_add c 8 (by decide)) (o2 := ![8, 0, 0]) rfl (sS := sendS 8) (sR := recvS 8) rfl rfl) $$ [HS]
  · isplitr <;> iassumption
  iintro HS
  rw [wp_ret]; imodintro
  iapply Hk $$ [HS]
  iexact HS

end Cert.KProof

end
-- ==== Proof.PartsC.lean ====
/-
# The body's parts: the accumulation's first twelve positions
-/
module

public import proofs.«01_k».proof.Proof.Moves

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- The fourth copy; the product of the device's own block; the fifth copy. -/
theorem part11 (c : Dev nD) (v2 : BitVec 32) {Q : FVec F S256x2048 .f32 → sProp 𝕄} :
    iprop(WSt m c 0 3 ∗ xPts m c ∗ owe c 0 ∗ (WSt m c 1 5 ∗ xPts m c ∗ owe c 0 -∗ Q (accV m c 0)))
      ⊢ wp frame (wpE (defs₀ (F := F)) 𝒱₀ (c : Thread nD τ) none) Set.univ
          (k0_part11 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2) Q := by
  rw [k0_part11_eq_skeleton]; unfold k0_part11_skel
  simp only [semSignalWord, semWaitWord, smemLoad, smemLoadElt, Prog.lift, Prog.bind_op, Prog.bind_ret, Prog.pure_eq_ret, wp_deviceId]
  iintro ⟨HW, Hx, HO, Hk⟩
  iapply (wissue_step m c 0 3 (by omega) (by omega) (by omega) (o1 := k0_off1 c 2#32) (off1_sub c 2) (o2 := ![3, 0, 0]) rfl (sm := wS 3) rfl) $$ HW; iintro HW
  iapply (wwait_step m c 0 4 (by omega) (sm := wS 0) rfl (o2 := ![0, 0, 0]) rfl) $$ [HW HO]
  · isplitl [HW] <;> iassumption
  iintro ⟨HW, HO⟩
  iapply (loadRows_step m c (o := k0_off3 c) (k0_off3_eq c)) $$ Hx; iintro Hx
  iapply (wload_step m c 0 4 (by omega) (o2 := ![0, 0, 0]) rfl) $$ HW; iintro HW
  iapply (wissue_step m c 1 4 (by omega) (by omega) (by omega) (o1 := k0_off1 c 14#32) (off1_sub c 14) (o2 := ![0, 0, 0]) rfl (sm := wS 0) rfl) $$ HW; iintro HW
  rw [wp_ret]; imodintro
  rw [show k0_pay3 (xrowV m c) (wV (wrowV m c (c - ord 0))) = accV m c 0 from rfl]
  iapply Hk $$ [HW Hx HO]
  isplitl [HW]; · iexact HW
  isplitl [Hx]; · iexact Hx
  iexact HO

/-- Position 1: its block of `w` and what landed from device `c - 1` are multiplied and added; the next copy. -/
theorem part12 (c : Dev nD) (v2 v : BitVec 32) {Q : FVec F S256x2048 .f32 → sProp 𝕄} :
    iprop(records m K ∗ WSt m c 1 5 ∗ RSt m c 1 ∗ owe c 0 ∗ (WSt m c 2 6 ∗ RSt m c 2 ∗ owe c 0 -∗ Q (accV m c 1)))
      ⊢ wp frame (wpE (defs₀ (F := F)) 𝒱₀ (c : Thread nD τ) none) Set.univ
          (k0_part12 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v (accV m c 0)) Q := by
  rw [k0_part12_eq_skeleton]; unfold k0_part12_skel
  simp only [semSignalWord, semWaitWord, smemLoad, smemLoadElt, Prog.lift, Prog.bind_op, Prog.bind_ret, Prog.pure_eq_ret, wp_deviceId]
  iintro ⟨#HR, HW, HV, HO, Hk⟩
  iapply (wwait_step m c 1 5 (by omega) (sm := wS 1) rfl (o2 := ![1, 0, 0]) rfl) $$ [HW HO]
  · isplitl [HW] <;> iassumption
  iintro ⟨HW, HO⟩
  iapply (waitRecv_step m K c 1 (by omega) (by omega) (sR := recvS 1) rfl (o2 := ![1, 0, 0]) rfl) $$ [HV HO]
  · isplitr; · iexact HR
    isplitl [HV] <;> iassumption
  iintro ⟨HV, HO⟩
  iapply (loadRecv_step m c 1 (by omega) (o2 := ![1, 0, 0]) rfl) $$ HV; iintro HV
  iapply (wload_step m c 1 5 (by omega) (o2 := ![1, 0, 0]) rfl) $$ HW; iintro HW
  iapply (wissue_step m c 2 5 (by omega) (by omega) (by omega) (o1 := k0_off1 c 3#32) (off1_sub c 3) (o2 := ![1, 0, 0]) rfl (sm := wS 1) rfl) $$ HW; iintro HW
  rw [wp_ret]; imodintro
  rw [show (k0_pay4 (accV m c 0) (bV (rowV m (c - ord 1) c)) (wV (wrowV m c (c - ord 1)))) = accV m c 1 from rfl]
  iapply Hk $$ [HW HV HO]
  isplitl [HW]; · iexact HW
  isplitl [HV]; · iexact HV
  iexact HO

/-- Position 2: its block of `w` and what landed from device `c - 15` are multiplied and added; the next copy. -/
theorem part13 (c : Dev nD) (v2 v : BitVec 32) {Q : FVec F S256x2048 .f32 → sProp 𝕄} :
    iprop(records m K ∗ WSt m c 2 6 ∗ RSt m c 2 ∗ owe c 0 ∗ (WSt m c 3 7 ∗ RSt m c 3 ∗ owe c 0 -∗ Q (accV m c 2)))
      ⊢ wp frame (wpE (defs₀ (F := F)) 𝒱₀ (c : Thread nD τ) none) Set.univ
          (k0_part13 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v (accV m c 1)) Q := by
  rw [k0_part13_eq_skeleton]; unfold k0_part13_skel
  simp only [semSignalWord, semWaitWord, smemLoad, smemLoadElt, Prog.lift, Prog.bind_op, Prog.bind_ret, Prog.pure_eq_ret, wp_deviceId]
  iintro ⟨#HR, HW, HV, HO, Hk⟩
  iapply (wwait_step m c 2 6 (by omega) (sm := wS 2) rfl (o2 := ![2, 0, 0]) rfl) $$ [HW HO]
  · isplitl [HW] <;> iassumption
  iintro ⟨HW, HO⟩
  iapply (waitRecv_step m K c 2 (by omega) (by omega) (sR := recvS 15) rfl (o2 := ![15, 0, 0]) rfl) $$ [HV HO]
  · isplitr; · iexact HR
    isplitl [HV] <;> iassumption
  iintro ⟨HV, HO⟩
  iapply (loadRecv_step m c 2 (by omega) (o2 := ![15, 0, 0]) rfl) $$ HV; iintro HV
  iapply (wload_step m c 2 6 (by omega) (o2 := ![2, 0, 0]) rfl) $$ HW; iintro HW
  iapply (wissue_step m c 3 6 (by omega) (by omega) (by omega) (o1 := k0_off1 c 13#32) (off1_sub c 13) (o2 := ![2, 0, 0]) rfl (sm := wS 2) rfl) $$ HW; iintro HW
  rw [wp_ret]; imodintro
  rw [show (k0_pay5 (accV m c 1) (bV (rowV m (c - ord 2) c)) (wV (wrowV m c (c - ord 2)))) = accV m c 2 from rfl]
  iapply Hk $$ [HW HV HO]
  isplitl [HW]; · iexact HW
  isplitl [HV]; · iexact HV
  iexact HO

/-- Position 3: its block of `w` and what landed from device `c - 2` are multiplied and added; the next copy. -/
theorem part14 (c : Dev nD) (v2 v : BitVec 32) {Q : FVec F S256x2048 .f32 → sProp 𝕄} :
    iprop(records m K ∗ WSt m c 3 7 ∗ RSt m c 3 ∗ owe c 0 ∗ (WSt m c 4 8 ∗ RSt m c 4 ∗ owe c 0 -∗ Q (accV m c 3)))
      ⊢ wp frame (wpE (defs₀ (F := F)) 𝒱₀ (c : Thread nD τ) none) Set.univ
          (k0_part14 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v (accV m c 2)) Q := by
  rw [k0_part14_eq_skeleton]; unfold k0_part14_skel
  simp only [semSignalWord, semWaitWord, smemLoad, smemLoadElt, Prog.lift, Prog.bind_op, Prog.bind_ret, Prog.pure_eq_ret, wp_deviceId]
  iintro ⟨#HR, HW, HV, HO, Hk⟩
  iapply (wwait_step m c 3 7 (by omega) (sm := wS 3) rfl (o2 := ![3, 0, 0]) rfl) $$ [HW HO]
  · isplitl [HW] <;> iassumption
  iintro ⟨HW, HO⟩
  iapply (waitRecv_step m K c 3 (by omega) (by omega) (sR := recvS 2) rfl (o2 := ![2, 0, 0]) rfl) $$ [HV HO]
  · isplitr; · iexact HR
    isplitl [HV] <;> iassumption
  iintro ⟨HV, HO⟩
  iapply (loadRecv_step m c 3 (by omega) (o2 := ![2, 0, 0]) rfl) $$ HV; iintro HV
  iapply (wload_step m c 3 7 (by omega) (o2 := ![3, 0, 0]) rfl) $$ HW; iintro HW
  iapply (wissue_step m c 4 7 (by omega) (by omega) (by omega) (o1 := k0_off1 c 4#32) (off1_sub c 4) (o2 := ![3, 0, 0]) rfl (sm := wS 3) rfl) $$ HW; iintro HW
  rw [wp_ret]; imodintro
  rw [show (k0_pay6 (accV m c 2) (bV (rowV m (c - ord 3) c)) (wV (wrowV m c (c - ord 3)))) = accV m c 3 from rfl]
  iapply Hk $$ [HW HV HO]
  isplitl [HW]; · iexact HW
  isplitl [HV]; · iexact HV
  iexact HO

/-- Position 4: its block of `w` and what landed from device `c - 14` are multiplied and added; the next copy. -/
theorem part15 (c : Dev nD) (v2 v : BitVec 32) {Q : FVec F S256x2048 .f32 → sProp 𝕄} :
    iprop(records m K ∗ WSt m c 4 8 ∗ RSt m c 4 ∗ owe c 0 ∗ (WSt m c 5 9 ∗ RSt m c 5 ∗ owe c 0 -∗ Q (accV m c 4)))
      ⊢ wp frame (wpE (defs₀ (F := F)) 𝒱₀ (c : Thread nD τ) none) Set.univ
          (k0_part15 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v (accV m c 3)) Q := by
  rw [k0_part15_eq_skeleton]; unfold k0_part15_skel
  simp only [semSignalWord, semWaitWord, smemLoad, smemLoadElt, Prog.lift, Prog.bind_op, Prog.bind_ret, Prog.pure_eq_ret, wp_deviceId]
  iintro ⟨#HR, HW, HV, HO, Hk⟩
  iapply (wwait_step m c 4 8 (by omega) (sm := wS 0) rfl (o2 := ![0, 0, 0]) rfl) $$ [HW HO]
  · isplitl [HW] <;> iassumption
  iintro ⟨HW, HO⟩
  iapply (waitRecv_step m K c 4 (by omega) (by omega) (sR := recvS 14) rfl (o2 := ![14, 0, 0]) rfl) $$ [HV HO]
  · isplitr; · iexact HR
    isplitl [HV] <;> iassumption
  iintro ⟨HV, HO⟩
  iapply (loadRecv_step m c 4 (by omega) (o2 := ![14, 0, 0]) rfl) $$ HV; iintro HV
  iapply (wload_step m c 4 8 (by omega) (o2 := ![0, 0, 0]) rfl) $$ HW; iintro HW
  iapply (wissue_step m c 5 8 (by omega) (by omega) (by omega) (o1 := k0_off1 c 12#32) (off1_sub c 12) (o2 := ![0, 0, 0]) rfl (sm := wS 0) rfl) $$ HW; iintro HW
  rw [wp_ret]; imodintro
  rw [show (k0_pay7 (accV m c 3) (bV (rowV m (c - ord 4) c)) (wV (wrowV m c (c - ord 4)))) = accV m c 4 from rfl]
  iapply Hk $$ [HW HV HO]
  isplitl [HW]; · iexact HW
  isplitl [HV]; · iexact HV
  iexact HO

/-- Position 5: its block of `w` and what landed from device `c - 3` are multiplied and added; the next copy. -/
theorem part16 (c : Dev nD) (v2 v : BitVec 32) {Q : FVec F S256x2048 .f32 → sProp 𝕄} :
    iprop(records m K ∗ WSt m c 5 9 ∗ RSt m c 5 ∗ owe c 0 ∗ (WSt m c 6 10 ∗ RSt m c 6 ∗ owe c 0 -∗ Q (accV m c 5)))
      ⊢ wp frame (wpE (defs₀ (F := F)) 𝒱₀ (c : Thread nD τ) none) Set.univ
          (k0_part16 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v (accV m c 4)) Q := by
  rw [k0_part16_eq_skeleton]; unfold k0_part16_skel
  simp only [semSignalWord, semWaitWord, smemLoad, smemLoadElt, Prog.lift, Prog.bind_op, Prog.bind_ret, Prog.pure_eq_ret, wp_deviceId]
  iintro ⟨#HR, HW, HV, HO, Hk⟩
  iapply (wwait_step m c 5 9 (by omega) (sm := wS 1) rfl (o2 := ![1, 0, 0]) rfl) $$ [HW HO]
  · isplitl [HW] <;> iassumption
  iintro ⟨HW, HO⟩
  iapply (waitRecv_step m K c 5 (by omega) (by omega) (sR := recvS 3) rfl (o2 := ![3, 0, 0]) rfl) $$ [HV HO]
  · isplitr; · iexact HR
    isplitl [HV] <;> iassumption
  iintro ⟨HV, HO⟩
  iapply (loadRecv_step m c 5 (by omega) (o2 := ![3, 0, 0]) rfl) $$ HV; iintro HV
  iapply (wload_step m c 5 9 (by omega) (o2 := ![1, 0, 0]) rfl) $$ HW; iintro HW
  iapply (wissue_step m c 6 9 (by omega) (by omega) (by omega) (o1 := k0_off1 c 5#32) (off1_sub c 5) (o2 := ![1, 0, 0]) rfl (sm := wS 1) rfl) $$ HW; iintro HW
  rw [wp_ret]; imodintro
  rw [show (k0_pay8 (accV m c 4) (bV (rowV m (c - ord 5) c)) (wV (wrowV m c (c - ord 5)))) = accV m c 5 from rfl]
  iapply Hk $$ [HW HV HO]
  isplitl [HW]; · iexact HW
  isplitl [HV]; · iexact HV
  iexact HO

/-- Position 6: its block of `w` and what landed from device `c - 13` are multiplied and added; the next copy. -/
theorem part17 (c : Dev nD) (v2 v : BitVec 32) {Q : FVec F S256x2048 .f32 → sProp 𝕄} :
    iprop(records m K ∗ WSt m c 6 10 ∗ RSt m c 6 ∗ owe c 0 ∗ (WSt m c 7 11 ∗ RSt m c 7 ∗ owe c 0 -∗ Q (accV m c 6)))
      ⊢ wp frame (wpE (defs₀ (F := F)) 𝒱₀ (c : Thread nD τ) none) Set.univ
          (k0_part17 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v (accV m c 5)) Q := by
  rw [k0_part17_eq_skeleton]; unfold k0_part17_skel
  simp only [semSignalWord, semWaitWord, smemLoad, smemLoadElt, Prog.lift, Prog.bind_op, Prog.bind_ret, Prog.pure_eq_ret, wp_deviceId]
  iintro ⟨#HR, HW, HV, HO, Hk⟩
  iapply (wwait_step m c 6 10 (by omega) (sm := wS 2) rfl (o2 := ![2, 0, 0]) rfl) $$ [HW HO]
  · isplitl [HW] <;> iassumption
  iintro ⟨HW, HO⟩
  iapply (waitRecv_step m K c 6 (by omega) (by omega) (sR := recvS 13) rfl (o2 := ![13, 0, 0]) rfl) $$ [HV HO]
  · isplitr; · iexact HR
    isplitl [HV] <;> iassumption
  iintro ⟨HV, HO⟩
  iapply (loadRecv_step m c 6 (by omega) (o2 := ![13, 0, 0]) rfl) $$ HV; iintro HV
  iapply (wload_step m c 6 10 (by omega) (o2 := ![2, 0, 0]) rfl) $$ HW; iintro HW
  iapply (wissue_step m c 7 10 (by omega) (by omega) (by omega) (o1 := k0_off1 c 11#32) (off1_sub c 11) (o2 := ![2, 0, 0]) rfl (sm := wS 2) rfl) $$ HW; iintro HW
  rw [wp_ret]; imodintro
  rw [show (k0_pay9 (accV m c 5) (bV (rowV m (c - ord 6) c)) (wV (wrowV m c (c - ord 6)))) = accV m c 6 from rfl]
  iapply Hk $$ [HW HV HO]
  isplitl [HW]; · iexact HW
  isplitl [HV]; · iexact HV
  iexact HO

/-- Position 7: its block of `w` and what landed from device `c - 4` are multiplied and added; the next copy. -/
theorem part18 (c : Dev nD) (v2 v : BitVec 32) {Q : FVec F S256x2048 .f32 → sProp 𝕄} :
    iprop(records m K ∗ WSt m c 7 11 ∗ RSt m c 7 ∗ owe c 0 ∗ (WSt m c 8 12 ∗ RSt m c 8 ∗ owe c 0 -∗ Q (accV m c 7)))
      ⊢ wp frame (wpE (defs₀ (F := F)) 𝒱₀ (c : Thread nD τ) none) Set.univ
          (k0_part18 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v (accV m c 6)) Q := by
  rw [k0_part18_eq_skeleton]; unfold k0_part18_skel
  simp only [semSignalWord, semWaitWord, smemLoad, smemLoadElt, Prog.lift, Prog.bind_op, Prog.bind_ret, Prog.pure_eq_ret, wp_deviceId]
  iintro ⟨#HR, HW, HV, HO, Hk⟩
  iapply (wwait_step m c 7 11 (by omega) (sm := wS 3) rfl (o2 := ![3, 0, 0]) rfl) $$ [HW HO]
  · isplitl [HW] <;> iassumption
  iintro ⟨HW, HO⟩
  iapply (waitRecv_step m K c 7 (by omega) (by omega) (sR := recvS 4) rfl (o2 := ![4, 0, 0]) rfl) $$ [HV HO]
  · isplitr; · iexact HR
    isplitl [HV] <;> iassumption
  iintro ⟨HV, HO⟩
  iapply (loadRecv_step m c 7 (by omega) (o2 := ![4, 0, 0]) rfl) $$ HV; iintro HV
  iapply (wload_step m c 7 11 (by omega) (o2 := ![3, 0, 0]) rfl) $$ HW; iintro HW
  iapply (wissue_step m c 8 11 (by omega) (by omega) (by omega) (o1 := k0_off1 c 6#32) (off1_sub c 6) (o2 := ![3, 0, 0]) rfl (sm := wS 3) rfl) $$ HW; iintro HW
  rw [wp_ret]; imodintro
  rw [show (k0_pay10 (accV m c 6) (bV (rowV m (c - ord 7) c)) (wV (wrowV m c (c - ord 7)))) = accV m c 7 from rfl]
  iapply Hk $$ [HW HV HO]
  isplitl [HW]; · iexact HW
  isplitl [HV]; · iexact HV
  iexact HO

/-- Position 8: its block of `w` and what landed from device `c - 12` are multiplied and added; the next copy. -/
theorem part19 (c : Dev nD) (v2 v : BitVec 32) {Q : FVec F S256x2048 .f32 → sProp 𝕄} :
    iprop(records m K ∗ WSt m c 8 12 ∗ RSt m c 8 ∗ owe c 0 ∗ (WSt m c 9 13 ∗ RSt m c 9 ∗ owe c 0 -∗ Q (accV m c 8)))
      ⊢ wp frame (wpE (defs₀ (F := F)) 𝒱₀ (c : Thread nD τ) none) Set.univ
          (k0_part19 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v (accV m c 7)) Q := by
  rw [k0_part19_eq_skeleton]; unfold k0_part19_skel
  simp only [semSignalWord, semWaitWord, smemLoad, smemLoadElt, Prog.lift, Prog.bind_op, Prog.bind_ret, Prog.pure_eq_ret, wp_deviceId]
  iintro ⟨#HR, HW, HV, HO, Hk⟩
  iapply (wwait_step m c 8 12 (by omega) (sm := wS 0) rfl (o2 := ![0, 0, 0]) rfl) $$ [HW HO]
  · isplitl [HW] <;> iassumption
  iintro ⟨HW, HO⟩
  iapply (waitRecv_step m K c 8 (by omega) (by omega) (sR := recvS 12) rfl (o2 := ![12, 0, 0]) rfl) $$ [HV HO]
  · isplitr; · iexact HR
    isplitl [HV] <;> iassumption
  iintro ⟨HV, HO⟩
  iapply (loadRecv_step m c 8 (by omega) (o2 := ![12, 0, 0]) rfl) $$ HV; iintro HV
  iapply (wload_step m c 8 12 (by omega) (o2 := ![0, 0, 0]) rfl) $$ HW; iintro HW
  iapply (wissue_step m c 9 12 (by omega) (by omega) (by omega) (o1 := k0_off1 c 10#32) (off1_sub c 10) (o2 := ![0, 0, 0]) rfl (sm := wS 0) rfl) $$ HW; iintro HW
  rw [wp_ret]; imodintro
  rw [show (k0_pay11 (accV m c 7) (bV (rowV m (c - ord 8) c)) (wV (wrowV m c (c - ord 8)))) = accV m c 8 from rfl]
  iapply Hk $$ [HW HV HO]
  isplitl [HW]; · iexact HW
  isplitl [HV]; · iexact HV
  iexact HO

/-- Position 9: its block of `w` and what landed from device `c - 5` are multiplied and added; the next copy. -/
theorem part20 (c : Dev nD) (v2 v : BitVec 32) {Q : FVec F S256x2048 .f32 → sProp 𝕄} :
    iprop(records m K ∗ WSt m c 9 13 ∗ RSt m c 9 ∗ owe c 0 ∗ (WSt m c 10 14 ∗ RSt m c 10 ∗ owe c 0 -∗ Q (accV m c 9)))
      ⊢ wp frame (wpE (defs₀ (F := F)) 𝒱₀ (c : Thread nD τ) none) Set.univ
          (k0_part20 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v (accV m c 8)) Q := by
  rw [k0_part20_eq_skeleton]; unfold k0_part20_skel
  simp only [semSignalWord, semWaitWord, smemLoad, smemLoadElt, Prog.lift, Prog.bind_op, Prog.bind_ret, Prog.pure_eq_ret, wp_deviceId]
  iintro ⟨#HR, HW, HV, HO, Hk⟩
  iapply (wwait_step m c 9 13 (by omega) (sm := wS 1) rfl (o2 := ![1, 0, 0]) rfl) $$ [HW HO]
  · isplitl [HW] <;> iassumption
  iintro ⟨HW, HO⟩
  iapply (waitRecv_step m K c 9 (by omega) (by omega) (sR := recvS 5) rfl (o2 := ![5, 0, 0]) rfl) $$ [HV HO]
  · isplitr; · iexact HR
    isplitl [HV] <;> iassumption
  iintro ⟨HV, HO⟩
  iapply (loadRecv_step m c 9 (by omega) (o2 := ![5, 0, 0]) rfl) $$ HV; iintro HV
  iapply (wload_step m c 9 13 (by omega) (o2 := ![1, 0, 0]) rfl) $$ HW; iintro HW
  iapply (wissue_step m c 10 13 (by omega) (by omega) (by omega) (o1 := k0_off1 c 7#32) (off1_sub c 7) (o2 := ![1, 0, 0]) rfl (sm := wS 1) rfl) $$ HW; iintro HW
  rw [wp_ret]; imodintro
  rw [show (k0_pay12 (accV m c 8) (bV (rowV m (c - ord 9) c)) (wV (wrowV m c (c - ord 9)))) = accV m c 9 from rfl]
  iapply Hk $$ [HW HV HO]
  isplitl [HW]; · iexact HW
  isplitl [HV]; · iexact HV
  iexact HO

/-- Position 10: its block of `w` and what landed from device `c - 11` are multiplied and added; the next copy. -/
theorem part21 (c : Dev nD) (v2 v : BitVec 32) {Q : FVec F S256x2048 .f32 → sProp 𝕄} :
    iprop(records m K ∗ WSt m c 10 14 ∗ RSt m c 10 ∗ owe c 0 ∗ (WSt m c 11 15 ∗ RSt m c 11 ∗ owe c 0 -∗ Q (accV m c 10)))
      ⊢ wp frame (wpE (defs₀ (F := F)) 𝒱₀ (c : Thread nD τ) none) Set.univ
          (k0_part21 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v (accV m c 9)) Q := by
  rw [k0_part21_eq_skeleton]; unfold k0_part21_skel
  simp only [semSignalWord, semWaitWord, smemLoad, smemLoadElt, Prog.lift, Prog.bind_op, Prog.bind_ret, Prog.pure_eq_ret, wp_deviceId]
  iintro ⟨#HR, HW, HV, HO, Hk⟩
  iapply (wwait_step m c 10 14 (by omega) (sm := wS 2) rfl (o2 := ![2, 0, 0]) rfl) $$ [HW HO]
  · isplitl [HW] <;> iassumption
  iintro ⟨HW, HO⟩
  iapply (waitRecv_step m K c 10 (by omega) (by omega) (sR := recvS 11) rfl (o2 := ![11, 0, 0]) rfl) $$ [HV HO]
  · isplitr; · iexact HR
    isplitl [HV] <;> iassumption
  iintro ⟨HV, HO⟩
  iapply (loadRecv_step m c 10 (by omega) (o2 := ![11, 0, 0]) rfl) $$ HV; iintro HV
  iapply (wload_step m c 10 14 (by omega) (o2 := ![2, 0, 0]) rfl) $$ HW; iintro HW
  iapply (wissue_step m c 11 14 (by omega) (by omega) (by omega) (o1 := k0_off1 c 9#32) (off1_sub c 9) (o2 := ![2, 0, 0]) rfl (sm := wS 2) rfl) $$ HW; iintro HW
  rw [wp_ret]; imodintro
  rw [show (k0_pay13 (accV m c 9) (bV (rowV m (c - ord 10) c)) (wV (wrowV m c (c - ord 10)))) = accV m c 10 from rfl]
  iapply Hk $$ [HW HV HO]
  isplitl [HW]; · iexact HW
  isplitl [HV]; · iexact HV
  iexact HO

/-- Position 11: its block of `w` and what landed from device `c - 6` are multiplied and added; the next copy. -/
theorem part22 (c : Dev nD) (v2 v : BitVec 32) {Q : FVec F S256x2048 .f32 → sProp 𝕄} :
    iprop(records m K ∗ WSt m c 11 15 ∗ RSt m c 11 ∗ owe c 0 ∗ (WSt m c 12 16 ∗ RSt m c 12 ∗ owe c 0 -∗ Q (accV m c 11)))
      ⊢ wp frame (wpE (defs₀ (F := F)) 𝒱₀ (c : Thread nD τ) none) Set.univ
          (k0_part22 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v2 v (accV m c 10)) Q := by
  rw [k0_part22_eq_skeleton]; unfold k0_part22_skel
  simp only [semSignalWord, semWaitWord, smemLoad, smemLoadElt, Prog.lift, Prog.bind_op, Prog.bind_ret, Prog.pure_eq_ret, wp_deviceId]
  iintro ⟨#HR, HW, HV, HO, Hk⟩
  iapply (wwait_step m c 11 15 (by omega) (sm := wS 3) rfl (o2 := ![3, 0, 0]) rfl) $$ [HW HO]
  · isplitl [HW] <;> iassumption
  iintro ⟨HW, HO⟩
  iapply (waitRecv_step m K c 11 (by omega) (by omega) (sR := recvS 6) rfl (o2 := ![6, 0, 0]) rfl) $$ [HV HO]
  · isplitr; · iexact HR
    isplitl [HV] <;> iassumption
  iintro ⟨HV, HO⟩
  iapply (loadRecv_step m c 11 (by omega) (o2 := ![6, 0, 0]) rfl) $$ HV; iintro HV
  iapply (wload_step m c 11 15 (by omega) (o2 := ![3, 0, 0]) rfl) $$ HW; iintro HW
  iapply (wissue_step m c 12 15 (by omega) (by omega) (by omega) (o1 := k0_off1 c 8#32) (off1_sub c 8) (o2 := ![3, 0, 0]) rfl (sm := wS 3) rfl) $$ HW; iintro HW
  rw [wp_ret]; imodintro
  rw [show (k0_pay14 (accV m c 10) (bV (rowV m (c - ord 11) c)) (wV (wrowV m c (c - ord 11)))) = accV m c 11 from rfl]
  iapply Hk $$ [HW HV HO]
  isplitl [HW]; · iexact HW
  isplitl [HV]; · iexact HV
  iexact HO

end Cert.KProof

end
-- ==== Proof.PartsD.lean ====
/-
# The body's parts: the last positions, the waits on the sends, the scales
-/
module

public import proofs.«01_k».proof.Proof.Moves

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- Position 12; the waits of position 13. -/
theorem part23 (c : Dev nD) (v v' : BitVec 32) {Q : FVec F S256x2048 .f32 → sProp 𝕄} :
    iprop(records m K ∗ WSt m c 12 16 ∗ RSt m c 12 ∗ owe c 0 ∗ (WMid m c 13 16 ∗ RSt m c 14 ∗ owe c 0 -∗ Q (accV m c 12)))
      ⊢ wp frame (wpE (defs₀ (F := F)) 𝒱₀ (c : Thread nD τ) none) Set.univ
          (k0_part23 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v v' (accV m c 11)) Q := by
  rw [k0_part23_eq_skeleton]; unfold k0_part23_skel
  simp only [semSignalWord, semWaitWord, smemLoad, smemLoadElt, Prog.lift, Prog.bind_op, Prog.bind_ret, Prog.pure_eq_ret, wp_deviceId]
  iintro ⟨#HR, HW, HV, HO, Hk⟩
  iapply (wwait_step m c 12 16 (by omega) (sm := wS 0) rfl (o2 := ![0, 0, 0]) rfl) $$ [HW HO]
  · isplitl [HW] <;> iassumption
  iintro ⟨HW, HO⟩
  iapply (waitRecv_step m K c 12 (by omega) (by omega) (sR := recvS 10) rfl (o2 := ![10, 0, 0]) rfl) $$ [HV HO]
  · isplitr; · iexact HR
    isplitl [HV] <;> iassumption
  iintro ⟨HV, HO⟩
  iapply (loadRecv_step m c 12 (by omega) (o2 := ![10, 0, 0]) rfl) $$ HV; iintro HV
  iapply (wload_step m c 12 16 (by omega) (o2 := ![0, 0, 0]) rfl) $$ HW; iintro HW
  iapply (wwait_step m c 13 16 (by omega) (sm := wS 1) rfl (o2 := ![1, 0, 0]) rfl) $$ [HW HO]
  · isplitl [HW] <;> iassumption
  iintro ⟨HW, HO⟩
  iapply (waitRecv_step m K c 13 (by omega) (by omega) (sR := recvS 7) rfl (o2 := ![7, 0, 0]) rfl) $$ [HV HO]
  · isplitr; · iexact HR
    isplitl [HV] <;> iassumption
  iintro ⟨HV, HO⟩
  rw [wp_ret]; imodintro
  rw [show (k0_pay15 (accV m c 11) (bV (rowV m (c - ord 12) c)) (wV (wrowV m c (c - ord 12)))) = accV m c 12 from rfl]
  iapply Hk $$ [HW HV HO]
  isplitl [HW]; · iexact HW
  isplitl [HV]; · iexact HV
  iexact HO

/-- Positions 13 and 14. -/
theorem part24 (c : Dev nD) (v : BitVec 32) {Q : FVec F S256x2048 .f32 → sProp 𝕄} :
    iprop(records m K ∗ WMid m c 13 16 ∗ RSt m c 14 ∗ owe c 0 ∗ (WSt m c 15 16 ∗ RSt m c 15 ∗ owe c 0 -∗ Q (accV m c 14)))
      ⊢ wp frame (wpE (defs₀ (F := F)) 𝒱₀ (c : Thread nD τ) none) Set.univ
          (k0_part24 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v (accV m c 12)) Q := by
  rw [k0_part24_eq_skeleton]; unfold k0_part24_skel
  simp only [semSignalWord, semWaitWord, smemLoad, smemLoadElt, Prog.lift, Prog.bind_op, Prog.bind_ret, Prog.pure_eq_ret, wp_deviceId]
  iintro ⟨#HR, HW, HV, HO, Hk⟩
  iapply (loadRecv_step m c 13 (by omega) (o2 := ![7, 0, 0]) rfl) $$ HV; iintro HV
  iapply (wload_step m c 13 16 (by omega) (o2 := ![1, 0, 0]) rfl) $$ HW; iintro HW
  iapply (wwait_step m c 14 16 (by omega) (sm := wS 2) rfl (o2 := ![2, 0, 0]) rfl) $$ [HW HO]
  · isplitl [HW] <;> iassumption
  iintro ⟨HW, HO⟩
  iapply (waitRecv_step m K c 14 (by omega) (by omega) (sR := recvS 9) rfl (o2 := ![9, 0, 0]) rfl) $$ [HV HO]
  · isplitr; · iexact HR
    isplitl [HV] <;> iassumption
  iintro ⟨HV, HO⟩
  iapply (loadRecv_step m c 14 (by omega) (o2 := ![9, 0, 0]) rfl) $$ HV; iintro HV
  iapply (wload_step m c 14 16 (by omega) (o2 := ![2, 0, 0]) rfl) $$ HW; iintro HW
  rw [wp_ret]; imodintro
  rw [show k0_pay16 (accV m c 12) (bV (rowV m (c - ord 13) c)) (wV (wrowV m c (c - ord 13))) (bV (rowV m (c - ord 14) c)) (wV (wrowV m c (c - ord 14))) = accV m c 14 from rfl]
  iapply Hk $$ [HW HV HO]
  isplitl [HW]; · iexact HW
  isplitl [HV]; · iexact HV
  iexact HO

/-- Position 15; the waits on the first two sends. -/
theorem part25 (c : Dev nD) (v : BitVec 32) {Q : FVec F S256x2048 .f32 → sProp 𝕄} :
    iprop(records m K ∗ WSt m c 15 16 ∗ RSt m c 15 ∗ TSt c 1 ∗ owe c 0 ∗ (WSt m c 16 16 ∗ RSt m c 16 ∗ TSt c 3 ∗ owe c 0 -∗ Q (accV m c 15)))
      ⊢ wp frame (wpE (defs₀ (F := F)) 𝒱₀ (c : Thread nD τ) none) Set.univ
          (k0_part25 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v (accV m c 14)) Q := by
  rw [k0_part25_eq_skeleton]; unfold k0_part25_skel
  simp only [semSignalWord, semWaitWord, smemLoad, smemLoadElt, Prog.lift, Prog.bind_op, Prog.bind_ret, Prog.pure_eq_ret, wp_deviceId]
  iintro ⟨#HR, HW, HV, HT, HO, Hk⟩
  iapply (wwait_step m c 15 16 (by omega) (sm := wS 3) rfl (o2 := ![3, 0, 0]) rfl) $$ [HW HO]
  · isplitl [HW] <;> iassumption
  iintro ⟨HW, HO⟩
  iapply (waitRecv_step m K c 15 (by omega) (by omega) (sR := recvS 8) rfl (o2 := ![8, 0, 0]) rfl) $$ [HV HO]
  · isplitr; · iexact HR
    isplitl [HV] <;> iassumption
  iintro ⟨HV, HO⟩
  iapply (loadRecv_step m c 15 (by omega) (o2 := ![8, 0, 0]) rfl) $$ HV; iintro HV
  iapply (wload_step m c 15 16 (by omega) (o2 := ![3, 0, 0]) rfl) $$ HW; iintro HW
  iapply (waitSend_step m K c 1 (by omega) (by omega) (sS := sendS 1) rfl (o1 := k0_off2 c 1#32) (off2_add c 1 (by decide))) $$ [HT HO]
  · isplitr; · iexact HR
    isplitl [HT] <;> iassumption
  iintro ⟨HT, HO⟩
  iapply (waitSend_step m K c 2 (by omega) (by omega) (sS := sendS 15) rfl (o1 := k0_off2 c 15#32) (off2_add c 15 (by decide))) $$ [HT HO]
  · isplitr; · iexact HR
    isplitl [HT] <;> iassumption
  iintro ⟨HT, HO⟩
  rw [wp_ret]; imodintro
  rw [show (k0_pay17 (accV m c 14) (bV (rowV m (c - ord 15) c)) (wV (wrowV m c (c - ord 15)))) = accV m c 15 from rfl]
  iapply Hk $$ [HW HV HT HO]
  isplitl [HW]; · iexact HW
  isplitl [HV]; · iexact HV
  isplitl [HT]; · iexact HT
  iexact HO

/-- The waits on sends 3 to 6. -/
theorem part26 (c : Dev nD) {Q : PUnit → sProp 𝕄} :
    iprop(records m K ∗ TSt c 3 ∗ owe c 0 ∗ (TSt c 7 ∗ owe c 0 -∗ Q ⟨⟩))
      ⊢ wp frame (wpE (defs₀ (F := F)) 𝒱₀ (c : Thread nD τ) none) Set.univ
          (k0_part26 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c) Q := by
  rw [k0_part26_eq_skeleton]; unfold k0_part26_skel
  simp only [semSignalWord, semWaitWord, smemLoad, smemLoadElt, Prog.lift, Prog.bind_op, Prog.bind_ret, Prog.pure_eq_ret, wp_deviceId]
  iintro ⟨#HR, HT, HO, Hk⟩
  iapply (waitSend_step m K c 3 (by omega) (by omega) (sS := sendS 2) rfl (o1 := k0_off2 c 2#32) (off2_add c 2 (by decide))) $$ [HT HO]
  · isplitr; · iexact HR
    isplitl [HT] <;> iassumption
  iintro ⟨HT, HO⟩
  iapply (waitSend_step m K c 4 (by omega) (by omega) (sS := sendS 14) rfl (o1 := k0_off2 c 14#32) (off2_add c 14 (by decide))) $$ [HT HO]
  · isplitr; · iexact HR
    isplitl [HT] <;> iassumption
  iintro ⟨HT, HO⟩
  iapply (waitSend_step m K c 5 (by omega) (by omega) (sS := sendS 3) rfl (o1 := k0_off2 c 3#32) (off2_add c 3 (by decide))) $$ [HT HO]
  · isplitr; · iexact HR
    isplitl [HT] <;> iassumption
  iintro ⟨HT, HO⟩
  iapply (waitSend_step m K c 6 (by omega) (by omega) (sS := sendS 13) rfl (o1 := k0_off2 c 13#32) (off2_add c 13 (by decide))) $$ [HT HO]
  · isplitr; · iexact HR
    isplitl [HT] <;> iassumption
  iintro ⟨HT, HO⟩
  rw [wp_ret]; imodintro
  iapply Hk $$ [HT HO]
  isplitl [HT]; · iexact HT
  iexact HO

/-- The waits on sends 7 to 11. -/
theorem part27 (c : Dev nD) {Q : PUnit → sProp 𝕄} :
    iprop(records m K ∗ TSt c 7 ∗ owe c 0 ∗ (TSt c 12 ∗ owe c 0 -∗ Q ⟨⟩))
      ⊢ wp frame (wpE (defs₀ (F := F)) 𝒱₀ (c : Thread nD τ) none) Set.univ
          (k0_part27 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c) Q := by
  rw [k0_part27_eq_skeleton]; unfold k0_part27_skel
  simp only [semSignalWord, semWaitWord, smemLoad, smemLoadElt, Prog.lift, Prog.bind_op, Prog.bind_ret, Prog.pure_eq_ret, wp_deviceId]
  iintro ⟨#HR, HT, HO, Hk⟩
  iapply (waitSend_step m K c 7 (by omega) (by omega) (sS := sendS 4) rfl (o1 := k0_off2 c 4#32) (off2_add c 4 (by decide))) $$ [HT HO]
  · isplitr; · iexact HR
    isplitl [HT] <;> iassumption
  iintro ⟨HT, HO⟩
  iapply (waitSend_step m K c 8 (by omega) (by omega) (sS := sendS 12) rfl (o1 := k0_off2 c 12#32) (off2_add c 12 (by decide))) $$ [HT HO]
  · isplitr; · iexact HR
    isplitl [HT] <;> iassumption
  iintro ⟨HT, HO⟩
  iapply (waitSend_step m K c 9 (by omega) (by omega) (sS := sendS 5) rfl (o1 := k0_off2 c 5#32) (off2_add c 5 (by decide))) $$ [HT HO]
  · isplitr; · iexact HR
    isplitl [HT] <;> iassumption
  iintro ⟨HT, HO⟩
  iapply (waitSend_step m K c 10 (by omega) (by omega) (sS := sendS 11) rfl (o1 := k0_off2 c 11#32) (off2_add c 11 (by decide))) $$ [HT HO]
  · isplitr; · iexact HR
    isplitl [HT] <;> iassumption
  iintro ⟨HT, HO⟩
  iapply (waitSend_step m K c 11 (by omega) (by omega) (sS := sendS 6) rfl (o1 := k0_off2 c 6#32) (off2_add c 6 (by decide))) $$ [HT HO]
  · isplitr; · iexact HR
    isplitl [HT] <;> iassumption
  iintro ⟨HT, HO⟩
  rw [wp_ret]; imodintro
  iapply Hk $$ [HT HO]
  isplitl [HT]; · iexact HT
  iexact HO

/-- The waits on the last four sends; the two scales; the scaled sum. -/
theorem part28 (c : Dev nD) (v : FVec F S256x2048 .f32) {Q : (Σ' (v770 : FVec F S256x2048 .f32) (cst_775 : F .f32), FVec F S256x2048 .f32) → sProp 𝕄} :
    iprop(records m K ∗ TSt c 12 ∗ owe c 0 ∗ sxPts m c ∗ swPts m c ∗ (TSt c 16 ∗ owe c 0 ∗ sxPts m c ∗ swPts m c -∗ Q ⟨k0_pay18 v (sxV m c) (swV m c), Scalar.ofBits .f32 0x42700000#32, k0_pay19 v (sxV m c) (swV m c)⟩))
      ⊢ wp frame (wpE (defs₀ (F := F)) 𝒱₀ (c : Thread nD τ) none) Set.univ
          (k0_part28 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5 c v) Q := by
  rw [k0_part28_eq_skeleton]; unfold k0_part28_skel
  simp only [semSignalWord, semWaitWord, smemLoad, smemLoadElt, Prog.lift, Prog.bind_op, Prog.bind_ret, Prog.pure_eq_ret, wp_deviceId]
  iintro ⟨#HR, HT, HO, Hsx, Hsw, Hk⟩
  iapply (waitSend_step m K c 12 (by omega) (by omega) (sS := sendS 10) rfl (o1 := k0_off2 c 10#32) (off2_add c 10 (by decide))) $$ [HT HO]
  · isplitr; · iexact HR
    isplitl [HT] <;> iassumption
  iintro ⟨HT, HO⟩
  iapply (waitSend_step m K c 13 (by omega) (by omega) (sS := sendS 7) rfl (o1 := k0_off2 c 7#32) (off2_add c 7 (by decide))) $$ [HT HO]
  · isplitr; · iexact HR
    isplitl [HT] <;> iassumption
  iintro ⟨HT, HO⟩
  iapply (waitSend_step m K c 14 (by omega) (by omega) (sS := sendS 9) rfl (o1 := k0_off2 c 9#32) (off2_add c 9 (by decide))) $$ [HT HO]
  · isplitr; · iexact HR
    isplitl [HT] <;> iassumption
  iintro ⟨HT, HO⟩
  iapply (waitSend_step m K c 15 (by omega) (by omega) (sS := sendS 8) rfl (o1 := k0_off2 c 8#32) (off2_add c 8 (by decide))) $$ [HT HO]
  · isplitr; · iexact HR
    isplitl [HT] <;> iassumption
  iintro ⟨HT, HO⟩
  iapply (loadSx_step m c) $$ Hsx; iintro Hsx
  iapply (loadSw_step m c) $$ Hsw; iintro Hsw
  rw [wp_ret]; imodintro
  have ex : ∀ h, sxstg m c (Shape.Idx.first h) = sxV m c := fun _ => rfl
  have ew : ∀ h, swstg m c (Shape.Idx.first h) = swV m c := fun _ => rfl
  rw [ex, ew]
  iapply Hk $$ [HT HO Hsx Hsw]
  isplitl [HT]; · iexact HT
  isplitl [HO]; · iexact HO
  isplitl [Hsx]; · iexact Hsx
  iexact Hsw

end Cert.KProof

end
-- ==== Proof.Body.lean ====
/-
# The body, from what a device starts with to what it ends with
-/
module

public import proofs.«01_k».proof.Proof.PartsA
public import proofs.«01_k».proof.Proof.PartsB
public import proofs.«01_k».proof.Proof.PartsC
public import proofs.«01_k».proof.Proof.PartsD
public import Idealize.ShloMosaic.Lib.Ring.FamCut
public import Idealize.ShloMosaic.Lib.ViewIndex

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## Reindexing -/

theorem reindex {g : ℕ → Fin 16} (h : (Finset.Ico 0 16).image g = Finset.univ) (Φ : Fin 16 → sProp 𝕄) :
    bigSep Finset.univ Φ = bigSep (Finset.Ico 0 16) fun i => Φ (g i) := by
  have hinj : Set.InjOn g (Finset.Ico 0 16 : Finset ℕ) := by
    apply Finset.card_image_iff.mp; rw [h]; rfl
  rw [← h, bigSep_image_of_injOn hinj]

theorem image_ord : (Finset.Ico 0 16).image ord = Finset.univ := by decide
theorem image_neg : (Finset.Ico 0 16).image neg = Finset.univ := by decide
theorem image_add (c : Fin 16) : (Finset.Ico 0 16).image (fun i => c + ord i) = Finset.univ := by revert c; decide +kernel
theorem image_sub (c : Fin 16) : (Finset.Ico 0 16).image (fun i => c - ord i) = Finset.univ := by revert c; decide +kernel

/-- A family over the offsets, as its member at 0 and the positions' from 1 on. -/
theorem reindex0 {g : ℕ → Fin 16} (h : (Finset.Ico 0 16).image g = Finset.univ) (Φ : Fin 16 → sProp 𝕄) :
    bigSep Finset.univ Φ = iprop(Φ (g 0) ∗ bigSep (Finset.Ico 1 16) fun i => Φ (g i)) := by
  rw [reindex h, bigSep_Ico_succ_bot (by decide)]

/-- A family over the nonzero offsets, over the positions from 1 on. -/
theorem reindex1 {g : ℕ → Fin 16} (h : (Finset.Ico 1 16).image g = Finset.univ.erase 0) (Φ : Fin 16 → sProp 𝕄) :
    bigSep (Finset.univ.erase 0) Φ = bigSep (Finset.Ico 1 16) fun i => Φ (g i) := by
  have hinj : Set.InjOn g (Finset.Ico 1 16 : Finset ℕ) := by
    apply Finset.card_image_iff.mp; rw [h]; rfl
  rw [← h, bigSep_image_of_injOn hinj]
theorem image1_ord : (Finset.Ico 1 16).image ord = Finset.univ.erase 0 := by decide
theorem image1_neg : (Finset.Ico 1 16).image neg = Finset.univ.erase 0 := by decide

/-! ## The cast block's rows -/

theorem rows_disjoint (b b' : Fin 16) (h : b ≠ b') :
    Disjoint (rowM b : Memref sig .tc .vmem S256x256 .fp8e4m3).view.set (rowM b' : Memref sig .tc .vmem S256x256 .fp8e4m3).view.set :=
  View.disjoint_slice (v := xsM.view) (r := rowR b) (r' := rowR b') (Rect.unit_disjoint (s := S4096x256) (0 : Fin 2) (by
    show 256 * b.val + 256 ≤ 256 * b'.val ∨ 256 * b'.val + 256 ≤ 256 * b.val
    have hv : b.val ≠ b'.val := fun e => h (Fin.ext e)
    omega))
abbrev rowI (c : Dev nD) (b : Fin 16) : Finset (Idx ((c : Thread nD τ).loc cc0_scratch0)) := (rowM b : Memref sig .tc .vmem S256x256 .fp8e4m3).view.set
/-- What of the cast block the sends do not use: the device's own rows. -/
def xsRest (c : Dev nD) : sProp 𝕄 :=
  iprop(rowPts m c (c + ord 0) ∗ ((c : Thread nD τ).loc cc0_scratch0) ↦[Idealize.ShloMosaic.Ring.restOf (rowI c)]{fullShare} xsB m c)

theorem xs_split (c : Dev nD) : xsPts m c ⊢ iprop((bigSep (Finset.Ico 1 16) fun i => rowPts m c (c + ord i)) ∗ xsRest m c) := by
  have h := Idealize.ShloMosaic.Ring.fam_split (Ix := Unit) (Name := ℕ) (U := UU) (Lvl := ℕ) (rowI c) (fun b b' h => rows_disjoint b b' h) (q := fullShare) (xsB m c)
  have e := reindex0 (image_add c) (fun b => rowPts m c b)
  unfold xsPts xsRest
  iintro H
  ihave H := h $$ H
  icases H with ⟨H, Hr⟩
  ihave H := (show (bigSep Finset.univ (fun b => ((c : Thread nD τ).loc cc0_scratch0) ↦[rowI c b]{fullShare} xsB m c) : sProp 𝕄)
    ⊢ iprop(rowPts m c (c + ord 0) ∗ bigSep (Finset.Ico 1 16) fun i => rowPts m c (c + ord i)) from Entails.of_eq e) $$ H
  icases H with ⟨H0, H⟩
  isplitl [H]; · iexact H
  isplitl [H0] <;> iassumption

/-! ## The bundles between the phases -/

/-- The tokens of the duties the sends pay. -/
def Toks (c : Dev nD) : sProp 𝕄 :=
  bigSep (Finset.Ico 1 16) fun i => iprop(dutyTok ER (sendCell c (ord i)) 0 0 ∗ dutyTok ER (recvCell (c + ord i) (ord i)) 0 0)
/-- The positions at the send cells. -/
def TAt (c : Dev nD) : sProp 𝕄 := bigSep (Finset.Ico 1 16) fun i => atPos ER (sendCell c (ord i)) 0 ∅ 0

/-- After the barrier: everything the sends need. -/
theorem sends_ready (c : Dev nD) :
    iprop((bigSep (Finset.Ico 1 16) fun i => rowPts m c (c + ord i)) ∗ bigSep (Finset.univ.erase (0 : Fin 16)) (barPay c) ∗ Toks c ∗ owe c (OR c 1))
      ⊢ SSt m c 1 := by
  rw [reindex1 image1_ord]
  unfold Toks SSt barPay
  rw [Finset.Ico_self, bigSep_empty, bigSep_sep', bigSep_sep', bigSep_sep', bigSep_sep']
  iintro ⟨H1, H2, ⟨H3, H4⟩, HO⟩
  isplitl [H1 H2 H3 H4]
  · isplitl [H1]; · iexact H1
    isplitl [H2]; · iexact H2
    isplitl [H3] <;> iassumption
  isplitr; · iempintro
  iexact HO

/-- After the sends: everything their waits need. -/
theorem waits_ready (c : Dev nD) : iprop(SSt m c 16 ∗ TAt c) ⊢ iprop(TSt c 1 ∗ owe c 0) := by
  unfold SSt TAt TSt
  rw [Finset.Ico_self, Finset.Ico_self, bigSep_empty, bigSep_empty, OR_end, bigSep_sep']
  iintro ⟨⟨-, Hc, HO⟩, Ha⟩
  isplitr [HO]
  · isplitl [Hc Ha]
    · isplitl [Hc] <;> iassumption
    iempintro
  iexact HO

/-! ## The body -/

/-- What the body starts with. -/
def coreIn (c : Dev nD) : sProp 𝕄 :=
  iprop(WSt m c 0 0 ∗ RSt m c 1 ∗ TAt c ∗ Toks c ∗ SigSt c 1 ∗ xPts m c ∗ anyXs c ∗ sxPts m c ∗ swPts m c ∗ anyOut c
    ∗ cred (tallyAt (barCell c) () 15) ∗ atPos ER (barCell c) 0 ∅ 0)
/-- What it ends with. -/
def coreOut (c : Dev nD) : sProp 𝕄 :=
  iprop(WSt m c 16 16 ∗ RSt m c 16 ∗ TSt c 16 ∗ xsRest m c ∗ xPts m c ∗ sxPts m c ∗ swPts m c ∗ outPts m c
    ∗ atPos ER (barCell c) 1 ∅ 0 ∗ owe c 0)

/-- The body, its parts in the program's order. -/
theorem sound_core (c : Dev nD) {Q : PUnit → sProp 𝕄} :
    iprop(records m K ∗ levAts L lv ∗ coreIn m c ∗ (coreOut m c -∗ Q ⟨⟩))
      ⊢ wp frame (wpE (defs₀ (F := F)) 𝒱₀ (c : Thread nD τ) none) Set.univ
          (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5) Q := by
  rw [cc0_body_eq_skeleton]; unfold cc0_body_skel coreIn
  simp only [Prog.lift, Prog.bind_op, Prog.bind_ret, Prog.pure_eq_ret]
  iintro ⟨#HR, #Hlev, ⟨HW, HV, HA, Htk, HB, Hx, Hxs, Hsx, Hsw, Hout, Hc, Hat⟩, Hk⟩
  rw [wp_bind]
  iapply (part1 m c) $$ [-]
  isplitl [HW]; · iexact HW
  iintro HW %v2
  try dsimp only
  rw [wp_bind]
  iapply (part2 m K c _) $$ [-]
  isplitr; · iexact HR
  isplitl [HW]; · iexact HW
  isplitl [Hx]; · iexact Hx
  isplitl [Hxs]; · iexact Hxs
  isplitl [HB]; · iexact HB
  iintro ⟨HW, Hx, Hxs, HB⟩ %v54
  try dsimp only
  rw [wp_bind]
  iapply (part3 m K c _ _) $$ [-]
  isplitr; · iexact HR
  isplitl [HB]; · iexact HB
  iintro HB %v78
  try dsimp only
  rw [wp_bind]
  iapply (part4 m K c _ _) $$ [-]
  isplitr; · iexact HR
  isplitr; · iexact Hlev
  isplitl [HB]; · iexact HB
  isplitl [Hc]; · iexact Hc
  isplitl [Hat]; · iexact Hat
  iintro ⟨HO, Hat, Hp⟩ %w4
  obtain ⟨v98, v100, c97⟩ := w4
  try dsimp only
  ihave Hr := (xs_split m c) $$ Hxs
  icases Hr with ⟨Hr, Hxr⟩
  ihave HS := (sends_ready m c) $$ [Hr Hp Htk HO]
  · isplitl [Hr]; · iexact Hr
    isplitl [Hp]; · iexact Hp
    isplitl [Htk] <;> iassumption
  rw [wp_bind]
  iapply (part5 m K c _ _ _) $$ [-]
  isplitr; · iexact HR
  isplitl [HS]; · iexact HS
  iintro HS %w
  obtain ⟨v110, v122⟩ := w
  try dsimp only
  rw [wp_bind]
  iapply (part6 m K c _) $$ [-]
  isplitr; · iexact HR
  isplitl [HS]; · iexact HS
  iintro HS %w
  obtain ⟨v134, v146, v158, v160, c152⟩ := w
  try dsimp only
  rw [wp_bind]
  iapply (part7 m K c _ _ _) $$ [-]
  isplitr; · iexact HR
  isplitl [HS]; · iexact HS
  iintro HS %w
  obtain ⟨v170, v182⟩ := w
  try dsimp only
  rw [wp_bind]
  iapply (part8 m K c _) $$ [-]
  isplitr; · iexact HR
  isplitl [HS]; · iexact HS
  iintro HS %w
  obtain ⟨v194, v206, v218, v220, c207⟩ := w
  try dsimp only
  rw [wp_bind]
  iapply (part9 m K c _ _ _) $$ [-]
  isplitr; · iexact HR
  isplitl [HS]; · iexact HS
  iintro HS %w
  obtain ⟨v230, v242⟩ := w
  try dsimp only
  rw [wp_bind]
  iapply (part10 m K c _) $$ [-]
  isplitr; · iexact HR
  isplitl [HS]; · iexact HS
  iintro HS %w
  obtain ⟨v254, v266⟩ := w
  try dsimp only
  ihave HT := (waits_ready m c) $$ [HS HA]
  · isplitl [HS] <;> iassumption
  icases HT with ⟨HT, HO⟩
  rw [wp_bind]
  iapply (part11 m c _) $$ [-]
  isplitl [HW]; · iexact HW
  isplitl [Hx]; · iexact Hx
  isplitl [HO]; · iexact HO
  iintro ⟨HW, Hx, HO⟩
  try dsimp only
  rw [wp_bind]
  iapply (part12 m K c _ _) $$ [-]
  isplitr; · iexact HR
  isplitl [HW]; · iexact HW
  isplitl [HV]; · iexact HV
  isplitl [HO]; · iexact HO
  iintro ⟨HW, HV, HO⟩
  try dsimp only
  rw [wp_bind]
  iapply (part13 m K c _ _) $$ [-]
  isplitr; · iexact HR
  isplitl [HW]; · iexact HW
  isplitl [HV]; · iexact HV
  isplitl [HO]; · iexact HO
  iintro ⟨HW, HV, HO⟩
  try dsimp only
  rw [wp_bind]
  iapply (part14 m K c _ _) $$ [-]
  isplitr; · iexact HR
  isplitl [HW]; · iexact HW
  isplitl [HV]; · iexact HV
  isplitl [HO]; · iexact HO
  iintro ⟨HW, HV, HO⟩
  try dsimp only
  rw [wp_bind]
  iapply (part15 m K c _ _) $$ [-]
  isplitr; · iexact HR
  isplitl [HW]; · iexact HW
  isplitl [HV]; · iexact HV
  isplitl [HO]; · iexact HO
  iintro ⟨HW, HV, HO⟩
  try dsimp only
  rw [wp_bind]
  iapply (part16 m K c _ _) $$ [-]
  isplitr; · iexact HR
  isplitl [HW]; · iexact HW
  isplitl [HV]; · iexact HV
  isplitl [HO]; · iexact HO
  iintro ⟨HW, HV, HO⟩
  try dsimp only
  rw [wp_bind]
  iapply (part17 m K c _ _) $$ [-]
  isplitr; · iexact HR
  isplitl [HW]; · iexact HW
  isplitl [HV]; · iexact HV
  isplitl [HO]; · iexact HO
  iintro ⟨HW, HV, HO⟩
  try dsimp only
  rw [wp_bind]
  iapply (part18 m K c _ _) $$ [-]
  isplitr; · iexact HR
  isplitl [HW]; · iexact HW
  isplitl [HV]; · iexact HV
  isplitl [HO]; · iexact HO
  iintro ⟨HW, HV, HO⟩
  try dsimp only
  rw [wp_bind]
  iapply (part19 m K c _ _) $$ [-]
  isplitr; · iexact HR
  isplitl [HW]; · iexact HW
  isplitl [HV]; · iexact HV
  isplitl [HO]; · iexact HO
  iintro ⟨HW, HV, HO⟩
  try dsimp only
  rw [wp_bind]
  iapply (part20 m K c _ _) $$ [-]
  isplitr; · iexact HR
  isplitl [HW]; · iexact HW
  isplitl [HV]; · iexact HV
  isplitl [HO]; · iexact HO
  iintro ⟨HW, HV, HO⟩
  try dsimp only
  rw [wp_bind]
  iapply (part21 m K c _ _) $$ [-]
  isplitr; · iexact HR
  isplitl [HW]; · iexact HW
  isplitl [HV]; · iexact HV
  isplitl [HO]; · iexact HO
  iintro ⟨HW, HV, HO⟩
  try dsimp only
  rw [wp_bind]
  iapply (part22 m K c _ _) $$ [-]
  isplitr; · iexact HR
  isplitl [HW]; · iexact HW
  isplitl [HV]; · iexact HV
  isplitl [HO]; · iexact HO
  iintro ⟨HW, HV, HO⟩
  try dsimp only
  rw [wp_bind]
  iapply (part23 m K c _ _) $$ [-]
  isplitr; · iexact HR
  isplitl [HW]; · iexact HW
  isplitl [HV]; · iexact HV
  isplitl [HO]; · iexact HO
  iintro ⟨HW, HV, HO⟩
  try dsimp only
  rw [wp_bind]
  iapply (part24 m K c _) $$ [-]
  isplitr; · iexact HR
  isplitl [HW]; · iexact HW
  isplitl [HV]; · iexact HV
  isplitl [HO]; · iexact HO
  iintro ⟨HW, HV, HO⟩
  try dsimp only
  rw [wp_bind]
  iapply (part25 m K c _) $$ [-]
  isplitr; · iexact HR
  isplitl [HW]; · iexact HW
  isplitl [HV]; · iexact HV
  isplitl [HT]; · iexact HT
  isplitl [HO]; · iexact HO
  iintro ⟨HW, HV, HT, HO⟩
  try dsimp only
  rw [wp_bind]
  iapply (part26 m K c) $$ [-]
  isplitr; · iexact HR
  isplitl [HT]; · iexact HT
  isplitl [HO]; · iexact HO
  iintro ⟨HT, HO⟩
  try dsimp only
  rw [wp_bind]
  iapply (part27 m K c) $$ [-]
  isplitr; · iexact HR
  isplitl [HT]; · iexact HT
  isplitl [HO]; · iexact HO
  iintro ⟨HT, HO⟩
  try dsimp only
  rw [wp_bind]
  iapply (part28 m K c _) $$ [-]
  isplitr; · iexact HR
  isplitl [HT]; · iexact HT
  isplitl [HO]; · iexact HO
  isplitl [Hsx]; · iexact Hsx
  isplitl [Hsw]; · iexact Hsw
  iintro ⟨HT, HO, Hsx, Hsw⟩
  try dsimp only
  iapply (storeOut_step m c (w := k0_pay1 (k0_pay18 (accV m c 15) (sxV m c) (swV m c)) (Scalar.ofBits .f32 0x42700000#32) (k0_pay19 (accV m c 15) (sxV m c) (swV m c))) rfl) $$ Hout; iintro Hout
  rw [wp_ret]; imodintro
  iapply Hk
  unfold coreOut
  isplitl [HW]; · iexact HW
  isplitl [HV]; · iexact HV
  isplitl [HT]; · iexact HT
  isplitl [Hxr]; · iexact Hxr
  isplitl [Hx]; · iexact Hx
  isplitl [Hsx]; · iexact Hsx
  isplitl [Hsw]; · iexact Hsw
  isplitl [Hout]; · iexact Hout
  isplitl [Hat]; · iexact Hat
  iexact HO

end Cert.KProof

end
-- ==== Proof.Split.lean ====
/-
# The buffers cut for the copies and joined again; what the body starts with and ends with
-/
module

public import proofs.«01_k».proof.Proof.Body

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## Buffers cut into the pieces the copies move -/

theorem slots_disjoint (b b' : Fin 16) (h : b ≠ b') :
    Disjoint (slotM b : Memref sig .tc .vmem S256x256 .fp8e4m3).view.set (slotM b' : Memref sig .tc .vmem S256x256 .fp8e4m3).view.set := by
  rw [show (slotM b : Memref sig .tc .vmem S256x256 .fp8e4m3).view.set = (bufM.view.slice (slotR b)).set from View.set_reshape _ _,
    show (slotM b' : Memref sig .tc .vmem S256x256 .fp8e4m3).view.set = (bufM.view.slice (slotR b')).set from View.set_reshape _ _]
  exact View.disjoint_slice (Rect.unit_disjoint (s := S16x256x256) (0 : Fin 3) (by
    show b.val + 1 ≤ b'.val ∨ b'.val + 1 ≤ b.val
    have hv : b.val ≠ b'.val := fun e => h (Fin.ext e)
    omega))
theorem wslots_disjoint (b b' : Fin 4) (h : b ≠ b') :
    Disjoint (wslotM b : Memref sig .tc .vmem S256x2048 .f32).view.set (wslotM b' : Memref sig .tc .vmem S256x2048 .f32).view.set := by
  rw [show (wslotM b : Memref sig .tc .vmem S256x2048 .f32).view.set = (wbufM.view.slice (wslotR b)).set from View.set_reshape _ _,
    show (wslotM b' : Memref sig .tc .vmem S256x2048 .f32).view.set = (wbufM.view.slice (wslotR b')).set from View.set_reshape _ _]
  exact View.disjoint_slice (Rect.unit_disjoint (s := S4x256x2048) (0 : Fin 3) (by
    show b.val + 1 ≤ b'.val ∨ b'.val + 1 ≤ b.val
    have hv : b.val ≠ b'.val := fun e => h (Fin.ext e)
    omega))
theorem wrows_disjoint (b b' : Fin 16) (h : b ≠ b') :
    Disjoint (wrowM b : Memref sig .tc .hbm S256x2048 .f32).view.set (wrowM b' : Memref sig .tc .hbm S256x2048 .f32).view.set :=
  View.disjoint_slice (v := wM.view) (r := wrowR b) (r' := wrowR b') (Rect.unit_disjoint (s := S4096x2048) (0 : Fin 2) (by
    show 256 * b.val + 256 ≤ 256 * b'.val ∨ 256 * b'.val + 256 ≤ 256 * b.val
    have hv : b.val ≠ b'.val := fun e => h (Fin.ext e)
    omega))

abbrev slotI (c : Dev nD) (b : Fin 16) : Finset (Idx ((c : Thread nD τ).loc cc0_scratch1)) := (slotM b : Memref sig .tc .vmem S256x256 .fp8e4m3).view.set
abbrev wslotI (c : Dev nD) (b : Fin 4) : Finset (Idx ((c : Thread nD τ).loc cc0_scratch2)) := (wslotM b : Memref sig .tc .vmem S256x2048 .f32).view.set
abbrev wrowI (c : Dev nD) (b : Fin 16) : Finset (Idx ((c : Thread nD τ).loc main_arg1)) := (wrowM b : Memref sig .tc .hbm S256x2048 .f32).view.set

def anyBuf (c : Dev nD) : sProp 𝕄 := iprop(∃ f : Buf (Elt F) ((c : Thread nD τ).loc cc0_scratch1), ((c : Thread nD τ).loc cc0_scratch1) ↦{fullShare} f)
def anyWbuf (c : Dev nD) : sProp 𝕄 := iprop(∃ f : Buf (Elt F) ((c : Thread nD τ).loc cc0_scratch2), ((c : Thread nD τ).loc cc0_scratch2) ↦{fullShare} f)
/-- `w`, whole. -/
def wAll (c : Dev nD) : sProp 𝕄 := ((c : Thread nD τ).loc main_arg1) ↦{fullShare} m ((c : Thread nD τ).loc main_arg1)

/-- What the cuts leave over. -/
def bufRest (c : Dev nD) : sProp 𝕄 := iprop(∃ f, ((c : Thread nD τ).loc cc0_scratch1) ↦[Idealize.ShloMosaic.Ring.restOf (slotI c)]{fullShare} (f : Buf (Elt F) ((c : Thread nD τ).loc cc0_scratch1)))
def wbufRest (c : Dev nD) : sProp 𝕄 := iprop(∃ f, ((c : Thread nD τ).loc cc0_scratch2) ↦[Idealize.ShloMosaic.Ring.restOf (wslotI c)]{fullShare} (f : Buf (Elt F) ((c : Thread nD τ).loc cc0_scratch2)))
def wRest (c : Dev nD) : sProp 𝕄 := ((c : Thread nD τ).loc main_arg1) ↦[Idealize.ShloMosaic.Ring.restOf (wrowI c)]{fullShare} m ((c : Thread nD τ).loc main_arg1)

theorem buf_split (c : Dev nD) : anyBuf c ⊢ (iprop((bigSep Finset.univ fun b => anyAt c (slotM b)) ∗ bufRest c) : sProp 𝕄) :=
  Idealize.ShloMosaic.Ring.fam_split_ex (Val := Elt F) (Ix := Unit) (Name := ℕ) (U := UU) (Lvl := ℕ) (slotI c) (fun b b' h => slots_disjoint b b' h) (q := fullShare)
include m in
theorem buf_join (c : Dev nD) : iprop((bigSep Finset.univ fun b => anyAt c (slotM b)) ∗ bufRest c) ⊢ (anyBuf c : sProp 𝕄) :=
  Idealize.ShloMosaic.Ring.fam_join (Val := Elt F) (Ix := Unit) (Name := ℕ) (U := UU) (Lvl := ℕ) (slotI c) (fun b b' h => slots_disjoint b b' h) (q := fullShare)
    (m ((c : Thread nD τ).loc cc0_scratch1))
theorem wbuf_split (c : Dev nD) : anyWbuf c ⊢ (iprop((bigSep Finset.univ fun b => anyAt c (wslotM b)) ∗ wbufRest c) : sProp 𝕄) :=
  Idealize.ShloMosaic.Ring.fam_split_ex (Val := Elt F) (Ix := Unit) (Name := ℕ) (U := UU) (Lvl := ℕ) (wslotI c) (fun b b' h => wslots_disjoint b b' h) (q := fullShare)
include m in
theorem wbuf_join (c : Dev nD) : iprop((bigSep Finset.univ fun b => anyAt c (wslotM b)) ∗ wbufRest c) ⊢ (anyWbuf c : sProp 𝕄) :=
  Idealize.ShloMosaic.Ring.fam_join (Val := Elt F) (Ix := Unit) (Name := ℕ) (U := UU) (Lvl := ℕ) (wslotI c) (fun b b' h => wslots_disjoint b b' h) (q := fullShare)
    (m ((c : Thread nD τ).loc cc0_scratch2))
include m in
theorem xs_join (c : Dev nD) : iprop((bigSep Finset.univ fun b => anyAt c (rowM b))
      ∗ ∃ f, ((c : Thread nD τ).loc cc0_scratch0) ↦[Idealize.ShloMosaic.Ring.restOf (rowI c)]{fullShare} (f : Buf (Elt F) ((c : Thread nD τ).loc cc0_scratch0))) ⊢ (anyXs c : sProp 𝕄) :=
  Idealize.ShloMosaic.Ring.fam_join (Val := Elt F) (Ix := Unit) (Name := ℕ) (U := UU) (Lvl := ℕ) (rowI c) (fun b b' h => rows_disjoint b b' h) (q := fullShare)
    (m ((c : Thread nD τ).loc cc0_scratch0))
theorem w_split (c : Dev nD) : wAll m c ⊢ iprop((bigSep Finset.univ fun b => wPts m c b) ∗ wRest m c) :=
  Idealize.ShloMosaic.Ring.fam_split (Ix := Unit) (Name := ℕ) (U := UU) (Lvl := ℕ) (wrowI c) (fun b b' h => wrows_disjoint b b' h) (q := fullShare)
    (m ((c : Thread nD τ).loc main_arg1))
theorem w_join (c : Dev nD) : iprop((bigSep Finset.univ fun b => wPts m c b) ∗ wRest m c) ⊢ wAll m c := by
  have h1 := pointsTo_biUnion (Ix := Unit) (Name := ℕ) (U := UU) (Lvl := ℕ) (q := fullShare) (f := m ((c : Thread nD τ).loc main_arg1))
    Finset.univ (wrowI c) (fun b _ b' _ h => wrows_disjoint b b' h)
  have h2 := (pointsTo_split_subset (Ix := Unit) (Name := ℕ) (U := UU) (Lvl := ℕ) (q := fullShare) (f := m ((c : Thread nD τ).loc main_arg1))
    (Finset.subset_univ (Finset.univ.biUnion (wrowI c)))).2
  rw [h1] at h2
  exact h2

/-! ## The ring of four -/

theorem image_slot0 : (Finset.Ico 0 4).image slotOf = Finset.univ := by decide
theorem image_slot16 : (Finset.Ico 16 20).image slotOf = Finset.univ := by decide
theorem reindex4 {a b : ℕ} (h : (Finset.Ico a b).image slotOf = Finset.univ) (hc : b - a = 4) (Φ : Fin 4 → sProp 𝕄) :
    bigSep Finset.univ Φ = bigSep (Finset.Ico a b) fun i => Φ (slotOf i) := by
  have hinj : Set.InjOn slotOf (Finset.Ico a b : Finset ℕ) := by
    apply Finset.card_image_iff.mp; rw [h, Nat.card_Ico, hc]; rfl
  rw [← h, bigSep_image_of_injOn hinj]

/-! ## From the launch's bundle to the body's -/

/-- The tokens of the duties device `c` pays. -/
def payToks (c : Dev nD) : sProp 𝕄 := iprop((bigSep (Finset.Ico 1 16) fun i => dutyTok ER (barCell (c - neg i)) 0 (neg i)) ∗ Toks c)
/-- Its positions, its ring's counters and its tokens. -/
def linear (c : Dev nD) : sProp 𝕄 :=
  iprop(atPos ER (barCell c) 0 ∅ 0 ∗ (bigSep Finset.univ fun k => atPos ER (sendCell c k) 0 ∅ 0) ∗ (bigSep Finset.univ fun k => atPos ER (recvCell c k) 0 ∅ 0)
    ∗ (bigSep Finset.univ fun s : Fin 4 => semVal (wCell c s) 0) ∗ payToks c)
/-- The credits of its waits. -/
def creds (c : Dev nD) : sProp 𝕄 :=
  iprop(cred (tallyAt (barCell c) () 15) ∗ bigSep (Finset.Ico 1 16) fun i => cred (tallyAt (recvCell c (ord i)) () N))
/-- What stays aside while the body runs. -/
def side (c : Dev nD) : sProp 𝕄 :=
  iprop(anyAt c (slotM 0) ∗ bufRest c ∗ wbufRest c ∗ wRest m c ∗ atPos ER (sendCell c 0) 0 ∅ 0 ∗ atPos ER (recvCell c 0) 0 ∅ 0)

theorem ring_ready (c : Dev nD) :
    iprop((bigSep Finset.univ fun s : Fin 4 => semVal (wCell c s) 0) ∗ (bigSep Finset.univ fun b => anyAt c (wslotM b)) ∗ bigSep Finset.univ fun b => wPts m c b)
      ⊢ WSt m c 0 0 := by
  rw [reindex4 image_slot0 rfl, reindex4 image_slot0 rfl, reindex (image_sub c)]
  unfold WSt wFree
  rw [Finset.Ico_self, bigSep_empty, bigSep_empty, bigSep_sep']
  iintro ⟨H1, H2, H3⟩
  isplitr; · iempintro
  isplitl [H1 H2]
  · isplitl [H1] <;> iassumption
  isplitl [H3]; · iexact H3
  iempintro
theorem ring_done (c : Dev nD) :
    WSt m c 16 16
      ⊢ iprop((bigSep Finset.univ fun s : Fin 4 => semVal (wCell c s) 0) ∗ (bigSep Finset.univ fun b => anyAt c (wslotM b)) ∗ bigSep Finset.univ fun b => wPts m c b) := by
  rw [reindex4 image_slot16 rfl, reindex4 image_slot16 rfl, reindex (image_sub c)]
  unfold WSt wFree
  rw [bigSep_sep']
  iintro ⟨-, ⟨H1, H2⟩, -, H3⟩
  isplitl [H1]; · iexact H1
  isplitl [H2] <;> iassumption

/-- The body starts. -/
theorem enter (c : Dev nD) :
    iprop(linear c ∗ creds c ∗ wAll m c ∗ anyXs c ∗ anyBuf c ∗ anyWbuf c ∗ owe c (O₀ c) ∗ xPts m c ∗ sxPts m c ∗ swPts m c ∗ anyOut c)
      ⊢ iprop(coreIn m c ∗ side m c) := by
  unfold linear creds payToks
  rw [reindex0 image_ord (fun k => atPos ER (sendCell c k) 0 ∅ 0), reindex0 image_ord (fun k => atPos ER (recvCell c k) 0 ∅ 0)]
  iintro ⟨⟨Hat, ⟨Hs0, Hs⟩, ⟨Hr0, Hr⟩, Hw, Htb, Htk⟩, ⟨Hcb, Hcr⟩, HW, Hxs, Hb, Hwb, HO, Hx, Hsx, Hsw, Hout⟩
  ihave HW := (w_split m c) $$ HW
  icases HW with ⟨HW, HWr⟩
  ihave Hb := (buf_split (F := F) c) $$ Hb
  icases Hb with ⟨Hb, Hbr⟩
  ihave Hb := (Entails.of_eq (reindex0 image_neg (fun b => (anyAt c (slotM b) : sProp 𝕄)))) $$ Hb
  icases Hb with ⟨Hb0, Hb⟩
  ihave Hwb := (wbuf_split (F := F) c) $$ Hwb
  icases Hwb with ⟨Hwb, Hwbr⟩
  ihave Hring := (ring_ready m c) $$ [Hw Hwb HW]
  · isplitl [Hw]; · iexact Hw
    isplitl [Hwb] <;> iassumption
  unfold coreIn side
  isplitr [Hb0 Hbr Hwbr HWr Hs0 Hr0]
  · isplitl [Hring]; · iexact Hring
    isplitl [Hcr Hr]
    · unfold RSt
      rw [Finset.Ico_self, bigSep_empty, bigSep_sep']
      isplitl
      · isplitl [Hcr] <;> iassumption
      iempintro
    isplitl [Hs]; · unfold TAt; iexact Hs
    isplitl [Htk]; · iexact Htk
    isplitl [Htb Hb HO]
    · unfold SigSt
      rw [bigSep_sep']
      isplitl [Htb Hb]
      · isplitl [Htb] <;> iassumption
      unfold O₀; iexact HO
    isplitl [Hx]; · iexact Hx
    isplitl [Hxs]; · iexact Hxs
    isplitl [Hsx]; · iexact Hsx
    isplitl [Hsw]; · iexact Hsw
    isplitl [Hout]; · iexact Hout
    isplitl [Hcb] <;> iassumption
  · isplitl [Hb0]; · iexact Hb0
    isplitl [Hbr]; · iexact Hbr
    isplitl [Hwbr]; · iexact Hwbr
    isplitl [HWr]; · iexact HWr
    isplitl [Hs0]; · iexact Hs0
    iexact Hr0

/-! ## From the body's bundle to the launch's -/

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A cell whose rounds are over closes: its counter, at zero, is the core's again. -/
theorem close_at (ck : Dev nD × CI) (R : ℕ) (hR : ∀ r, R ≤ r → (sched (F := F) m).duties (kcell ck) r = ∅) :
    iprop(records m K ∗ atPos ER (kcell ck) R ∅ 0) ⊢ |={Set.univ}=> semVal (kcell ck) 0 := by
  iintro ⟨#HR, Ha⟩
  iapply (Rounds.cell_close ER (sched m) (Set.mem_univ (K ck)) (fun h => h) (R := R) hR)
  isplitr; · iapply (inv_at m K ck); iexact HR
  iexact Ha

theorem close_sends (c : Dev nD) :
    iprop(records m K ∗ (bigSep (Finset.Ico 1 16) fun i => atPos ER (sendCell c (ord i)) 1 ∅ 0) ∗ atPos ER (sendCell c 0) 0 ∅ 0)
      ⊢ |={Set.univ}=> bigSep Finset.univ fun k => semVal (sendCell c k) 0 := by
  rw [reindex0 image_ord (fun k => (semVal (sendCell c k) 0 : sProp 𝕄))]
  have h : iprop(records m K ∗ bigSep (Finset.Ico 1 16) fun i => atPos ER (sendCell c (ord i)) 1 ∅ 0)
      ⊢ |={Set.univ}=> bigSep (Finset.Ico 1 16) fun i => semVal (sendCell c (ord i)) 0 :=
    (bigSep_with_persistent fun i _ => close_at m K (c, .inr (.inl (ord i))) 1 (duties_later m _)).trans (bigSep_fupd _ _)
  iintro ⟨#HR, Ha, H0⟩
  imod h $$ [Ha] with Hz
  · isplitr <;> iassumption
  imod (close_at m K (c, .inr (.inl 0)) 0 (duties_send0 m c)) $$ [H0] with Hz0
  · isplitr <;> iassumption
  imodintro
  isplitl [Hz0]; · iexact Hz0
  iexact Hz
theorem close_recvs (c : Dev nD) :
    iprop(records m K ∗ (bigSep (Finset.Ico 1 16) fun i => atPos ER (recvCell c (ord i)) 1 ∅ 0) ∗ atPos ER (recvCell c 0) 0 ∅ 0)
      ⊢ |={Set.univ}=> bigSep Finset.univ fun k => semVal (recvCell c k) 0 := by
  rw [reindex0 image_ord (fun k => (semVal (recvCell c k) 0 : sProp 𝕄))]
  have h : iprop(records m K ∗ bigSep (Finset.Ico 1 16) fun i => atPos ER (recvCell c (ord i)) 1 ∅ 0)
      ⊢ |={Set.univ}=> bigSep (Finset.Ico 1 16) fun i => semVal (recvCell c (ord i)) 0 :=
    (bigSep_with_persistent fun i _ => close_at m K (c, .inr (.inr (ord i))) 1 (duties_later m _)).trans (bigSep_fupd _ _)
  iintro ⟨#HR, Ha, H0⟩
  imod h $$ [Ha] with Hz
  · isplitr <;> iassumption
  imod (close_at m K (c, .inr (.inr 0)) 0 (duties_recv0 m c)) $$ [H0] with Hz0
  · isplitr <;> iassumption
  imodintro
  isplitl [Hz0]; · iexact Hz0
  iexact Hz

theorem owns_any (c : Dev nD) {sp : Space} {s : Shape} {e : EltTy} (M : Memref sig .tc sp s e) (X : s.Idx → Elt F e) :
    (owns (c : Thread nD τ) M fullShare X : sProp 𝕄) ⊢ anyAt c M := by
  unfold owns anyAt
  iintro ⟨%f, -, H⟩
  iexists f; iexact H

/-- The counters, all back at zero. -/
def zeros (c : Dev nD) : sProp 𝕄 :=
  iprop(semVal (barCell c) 0 ∗ (bigSep Finset.univ fun k => semVal (sendCell c k) 0) ∗ (bigSep Finset.univ fun k => semVal (recvCell c k) 0)
    ∗ bigSep Finset.univ fun s : Fin 4 => semVal (wCell c s) 0)

/-- The body ends. -/
theorem leave (c : Dev nD) :
    iprop(records m K ∗ coreOut m c ∗ side m c)
      ⊢ |={Set.univ}=> iprop(zeros c ∗ wAll m c ∗ anyXs c ∗ anyBuf c ∗ anyWbuf c ∗ owe c 0 ∗ xPts m c ∗ sxPts m c ∗ swPts m c ∗ outPts m c) := by
  have e1 := reindex0 image_ord (fun b => (anyAt c (slotM b) : sProp 𝕄))
  have e2 := reindex0 (image_add c) (fun b => (anyAt c (rowM b) : sProp 𝕄))
  have e3 : (bigSep (Finset.Ico 1 16) fun i => (owns (c : Thread nD τ) (slotM (ord i)) fullShare (rowV m (c - ord i) c) : sProp 𝕄))
      ⊢ bigSep (Finset.Ico 1 16) fun i => anyAt c (slotM (ord i)) := bigSep_mono fun i _ => owns_any c (slotM (ord i)) (rowV m (c - ord i) c)
  unfold coreOut side RSt TSt xsRest
  rw [Finset.Ico_self, bigSep_empty, bigSep_empty, bigSep_sep', bigSep_sep']
  iintro ⟨#HR, ⟨HW, ⟨-, Hra, Hro⟩, ⟨-, Hta, Hto⟩, ⟨Hx0, Hxr⟩, Hx, Hsx, Hsw, Hout, Hat, HO⟩, Hb0, Hbr, Hwbr, HWr, Hs0, Hr0⟩
  imod (close_sends m K c) $$ [Hta Hs0] with Hzs
  · isplitr; · iexact HR
    isplitl [Hta] <;> iassumption
  imod (close_recvs m K c) $$ [Hra Hr0] with Hzr
  · isplitr; · iexact HR
    isplitl [Hra] <;> iassumption
  imod (close_at m K (c, .inl ()) 1 (duties_later m _)) $$ [Hat] with Hzb
  · isplitr <;> iassumption
  ihave HW := (ring_done m c) $$ HW
  icases HW with ⟨Hzw, Hwb, HW⟩
  ihave HW := (w_join m c) $$ [HW HWr]
  · isplitl [HW] <;> iassumption
  ihave Hwb := (wbuf_join m c) $$ [Hwb Hwbr]
  · isplitl [Hwb] <;> iassumption
  ihave Hro := e3 $$ Hro
  ihave Hb := (Entails.of_eq e1.symm) $$ [Hb0 Hro]
  · isplitl [Hb0]; · iexact Hb0
    iexact Hro
  ihave Hb := (buf_join m c) $$ [Hb Hbr]
  · isplitl [Hb] <;> iassumption
  ihave Hxs := (Entails.of_eq e2.symm) $$ [Hx0 Hto]
  · isplitl [Hx0]
    · unfold anyAt rowPts; iexists (xsB m c); iexact Hx0
    iexact Hto
  ihave Hxs := (xs_join m c) $$ [Hxs Hxr]
  · isplitl [Hxs]; · iexact Hxs
    iexists (xsB m c); iexact Hxr
  imodintro
  unfold zeros
  isplitl [Hzs Hzr Hzb Hzw]
  · isplitl [Hzb]; · iexact Hzb
    isplitl [Hzs]; · iexact Hzs
    isplitl [Hzr] <;> iassumption
  isplitl [HW]; · iexact HW
  isplitl [Hxs]; · iexact Hxs
  isplitl [Hb]; · iexact Hb
  isplitl [Hwb]; · iexact Hwb
  isplitl [HO]; · iexact HO
  isplitl [Hx]; · iexact Hx
  isplitl [Hsx]; · iexact Hsx
  isplitl [Hsw] <;> iassumption

end Cert.KProof

end
-- ==== Proof.Oblig.lean ====
/-
# The pipeline's proof data, and its body obligation
-/
module

public import proofs.«01_k».proof.Proof.Split
public import proofs.«01_k».proof.Proof.Gen.KernelIdeal.Frame

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What device `c` holds at launch, beside its buffers. -/
def start (c : Dev nD) : sProp 𝕄 := iprop((∃ K, records m K ∗ linear c) ∗ creds c ∗ levAts L lv ∗ wAll m c)
/-- The scratch buffers, at any contents. -/
def scratch (c : Dev nD) : sProp 𝕄 := iprop(anyXs c ∗ anyBuf c ∗ anyWbuf c)
/-- Before the body, and after it. -/
def Φ₀ (c : Dev nD) : sProp 𝕄 := iprop(start m c ∗ scratch c)
def Φ₁ (c : Dev nD) : sProp 𝕄 := iprop(zeros c ∗ wAll m c ∗ scratch c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => sxstg m c
    | ⟨2, _⟩ => swstg m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The one grid point. -/
abbrev t₀ : Fin cfg0.N := t0_0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))
def bodyPost (c : Dev nD) : sProp 𝕄 :=
  iprop(Φ₁ m c ∗ (dats m 0 c).owesAt () t₀.succ ∗ stg c cc0_stg0_0 (xstg m c) ∗ stg c cc0_stg1_0 (sxstg m c)
    ∗ stg c cc0_stg2_0 (swstg m c) ∗ stg c cc0_stg3_0 (outAt m c))

theorem before_0 (c : Dev nD) (d) : (dats m 0 c).before (0 : Fin 4) t₀ d = xstg m c := by unfold Dat.before; rw [if_pos (fetch0_0 t₀)]; rfl
theorem before_1 (c : Dev nD) (d) : (dats m 0 c).before (1 : Fin 4) t₀ d = sxstg m c := by unfold Dat.before; rw [if_pos (fetch0_1 t₀)]; rfl
theorem before_2 (c : Dev nD) (d) : (dats m 0 c).before (2 : Fin 4) t₀ d = swstg m c := by unfold Dat.before; rw [if_pos (fetch0_2 t₀)]; rfl

/-- The body, from `bodyPre` to `bodyPost`. -/
theorem sound_body (c : Dev nD) (Kt : PUnit → sProp 𝕄) :
    iprop(bodyPre m c ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5) Kt := by
  unfold bodyPre Φ₀ start scratch
  iintro ⟨⟨⟨⟨⟨%K, #HR, Hlin⟩, Hcr, #Hlev, HW⟩, Hxs, Hb, Hwb⟩, Ho, ⟨%d0, %g0, %hg0, Hx⟩, ⟨%d1, %g1, %hg1, Hsx⟩, ⟨%d2, %g2, %hg2, Hsw⟩, ⟨%d3, %g3, %hg3, Hout⟩⟩, Hk⟩
  rw [before_0] at hg0; rw [before_1] at hg1; rw [before_2] at hg2
  subst hg0; subst hg1; subst hg2
  unfold Dat.owesAt Pipeline.owesWithin
  icases Ho with ⟨%W, %hW, HO⟩
  rw [show (dats m 0 c).owed t₀.castSucc = O₀ c from rfl]
  ihave H := (enter m c) $$ [Hlin Hcr HW Hxs Hb Hwb HO Hx Hsx Hsw Hout]
  · isplitl [Hlin]; · iexact Hlin
    isplitl [Hcr]; · iexact Hcr
    isplitl [HW]; · iexact HW
    isplitl [Hxs]; · iexact Hxs
    isplitl [Hb]; · iexact Hb
    isplitl [Hwb]; · iexact Hwb
    isplitl [HO]; · unfold owe; iexists W; iexact HO
    isplitl [Hx]; · unfold xPts; iexact Hx
    isplitl [Hsx]; · unfold sxPts; iexact Hsx
    isplitl [Hsw]; · unfold swPts; iexact Hsw
    unfold anyOut; iexists g3; iexact Hout
  icases H with ⟨H, Hside⟩
  iapply (wp_fupd _ _ _ _)
  iapply (sound_core m K c) $$ [-]
  isplitr; · iexact HR
  isplitr; · iexact Hlev
  isplitl [H]; · iexact H
  iintro H
  imod (leave m K c) $$ [H Hside] with H
  · isplitr; · iexact HR
    isplitl [H] <;> iassumption
  icases H with ⟨Hz, HW, Hxs, Hb, Hwb, HO, Hx, Hsx, Hsw, Hout⟩
  imodintro
  iapply Hk
  unfold bodyPost Φ₁ scratch owe Dat.owesAt Pipeline.owesWithin xPts sxPts swPts outPts
  icases HO with ⟨%W', HO⟩
  rw [show (dats m 0 c).owed t₀.succ = 0 from rfl]
  isplitl [Hz HW Hxs Hb Hwb]
  · isplitl [Hz]; · iexact Hz
    isplitl [HW]; · iexact HW
    isplitl [Hxs]; · iexact Hxs
    isplitl [Hb] <;> iassumption
  isplitl [HO]
  · iexists W'
    isplitr; · ipureintro; exact fun _ _ => Or.inl trivial
    iexact HO
  isplitl [Hx]
  · iexists _; isplitr; · (ipureintro; rfl)
    iexact Hx
  isplitl [Hsx]
  · iexists _; isplitr; · (ipureintro; rfl)
    iexact Hsx
  isplitl [Hsw]
  · iexists _; isplitr; · (ipureintro; rfl)
    iexact Hsw
  iexists _; isplitr; · (ipureintro; rfl)
  iexact Hout

set_option maxRecDepth 65536 in
/-- The library's body obligation on core `c`. -/
theorem body_obligation (c : Dev nD) : BodyObligation (dats (F := F) m 0 c) (defs₀ (F := F)) 𝒱₀ () Set.univ := fun t => by
  rw [show t = t₀ from fin_N0 t]
  rw [bigSep_W0, bigSep_W0]
  simp only [owns_whole_eq]
  show bodyPre m c ⊢ wp frame (wpE (defs₀ (F := F)) 𝒱₀ (c : Thread nD τ) none) Set.univ
    (cc0_body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) cc0_scratch3 cc0_scratch4 cc0_scratch5) (fun _ => bodyPost m c)
  iintro H
  iapply (sound_body m c fun _ => bodyPost m c)
  isplitl [H]; · iexact H
  iintro H; iexact H

end Cert.KProof

end
-- ==== Proof.Ghost.lean ====
/-
# The launch's ghost state: the cells, their tokens, who gets which; the credits of the waits
-/
module

public import proofs.«01_k».proof.Proof.Oblig

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells and tokens -/

/-- The kernel's own semaphores. -/
abbrev osem : Fin 16 ⊕ (Fin 16 ⊕ Fin 4) → SemLoc sig := fun
  | .inl k => .dma (sendS k) | .inr (.inl k) => .dma (recvS k) | .inr (.inr s) => .dma (wS s)
theorem ownSemFacts : Pipeline.OwnSemFacts cfg0.spec osem := by decide

theorem csem_injective : Function.Injective csem := by decide
theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def theCells : Finset (GSem nD τ sig) := Finset.univ.map ⟨kcell, kcell_injective⟩

/-- The tokens minted: each barrier's sixteen (that of duty 0 unused), each send's and each receive's one. -/
abbrev TI : Type := Fin 16 ⊕ (Fin 16 ⊕ Fin 16)
abbrev tokOf (cj : Dev nD × TI) : GSem nD τ sig × ℕ × Fin 16 := match cj.2 with
  | .inl o => (barCell cj.1, 0, o) | .inr (.inl k) => (sendCell cj.1 k, 0, 0) | .inr (.inr k) => (recvCell cj.1 k, 0, 0)
/-- A token's semaphore and duty. -/
abbrev tokKey : TI → SemLoc sig × Fin 16 := fun
  | .inl o => (.reg barS, o) | .inr (.inl k) => (.dma (sendS k), 0) | .inr (.inr k) => (.dma (recvS k), 0)
theorem tokKey_injective : Function.Injective tokKey := by decide
theorem tokOf_key (cj : Dev nD × TI) : ((tokOf cj).1.1.1, (tokOf cj).1.2, (tokOf cj).2.2) = (cj.1, tokKey cj.2) := by
  rcases cj with ⟨c, o | k | k⟩ <;> rfl
theorem tokOf_injective : Function.Injective (tokOf : Dev nD × TI → GSem nD τ sig × ℕ × Fin 16) := by
  intro a b h
  have h' : (a.1, tokKey a.2) = (b.1, tokKey b.2) := by rw [← tokOf_key a, ← tokOf_key b, h]
  exact Prod.ext (Prod.mk.inj h').1 (tokKey_injective (Prod.mk.inj h').2)
def theToks : Finset (GSem nD τ sig × ℕ × Fin 16) := Finset.univ.map ⟨tokOf, tokOf_injective⟩

def u₀ : UU :=
  (initOf (Pipeline.cells cfgs cellOf_inj) (Pipeline.launchToks cfgs cellOf_inj), (initOf theCells theToks, 1))

/-- The duty tokens of device `c`'s own cells. -/
def toks (c : Dev nD) : sProp 𝕄 :=
  iprop((bigSep Finset.univ fun o : Fin 16 => dutyTok ER (barCell c) 0 o) ∗ (bigSep Finset.univ fun k : Fin 16 => dutyTok ER (sendCell c k) 0 0)
    ∗ bigSep Finset.univ fun k : Fin 16 => dutyTok ER (recvCell c k) 0 0)

/-- What the launch element deals device `c`. -/
def G (c : Dev nD) : sProp 𝕄 :=
  iprop((bigSep Finset.univ fun k : CI => roundState ER (sched m) (kcell (c, k)) 0)
    ∗ (bigSep Finset.univ fun k : CI => iprop(atPos ER (kcell (c, k)) 0 ∅ 0 ∗ reached ER (kcell (c, k)) 0)) ∗ toks c)
/-- What the global step makes of it. -/
def G' (c : Dev nD) : sProp 𝕄 := iprop(∃ K, records m K ∗ linear c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : CI => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum, bigSep_univ_sum]; rfl
  iintro HX
  imod (Rounds.fund ER (sched m) theCells theToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem u₀_split : (ownU (u₀ : UU) : sProp 𝕄)
    ⊢ iprop(BI.own (EP (initOf (Pipeline.cells cfgs cellOf_inj) (Pipeline.launchToks cfgs cellOf_inj))) ∗ BI.own (ER (initOf theCells theToks))) := by
  unfold u₀
  refine (ownU_pair _ _).trans (sep_mono_right ?_)
  exact (own_pair_emb (M' := 𝕄) embR (initOf theCells theToks) (1 : Counters)).trans sep_elim_left

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ (bigSep Finset.univ fun k => semVal (recvCell c k) 0)
        ∗ bigSep Finset.univ fun s : Fin 4 => semVal (wCell c s) 0) := by
  unfold Pipeline.ownSems0; rw [bigSep_univ_sum, bigSep_univ_sum]; rfl
theorem cells_eq (c : Dev nD) (Φ : CI → sProp 𝕄) : bigSep Finset.univ Φ = iprop(Φ (.inl ()) ∗ (bigSep Finset.univ fun k : Fin 16 => Φ (.inr (.inl k))) ∗ bigSep Finset.univ fun k : Fin 16 => Φ (.inr (.inr k))) := by
  rw [bigSep_univ_sum, bigSep_univ_sum]
  rw [show (bigSep (Finset.univ : Finset Unit) fun a => Φ (.inl a)) = Φ (.inl ()) from by
    rw [show (Finset.univ : Finset Unit) = {()} from rfl, bigSep_singleton]]
  rfl

/-- What a device has once its cells' invariants are allocated. -/
def alloced (c : Dev nD) : sProp 𝕄 :=
  iprop((bigSep Finset.univ fun k : CI => iprop(∃ κ : ℕ, cellInv ER (sched m) κ (kcell (c, k))))
    ∗ (bigSep Finset.univ fun k : CI => iprop(atPos ER (kcell (c, k)) 0 ∅ 0 ∗ reached ER (kcell (c, k)) 0)) ∗ toks c
    ∗ bigSep Finset.univ fun s : Fin 4 => semVal (wCell c s) 0)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> alloced m c := by
  rw [ownSems0_eq, unscopedSems0_eq]
  unfold G alloced
  iintro ⟨⟨Hs, Hr, Hw⟩, Hb, Hst, Hat, Htok⟩
  ihave Hv := (Entails.of_eq (cells_eq c (fun k => (semVal (kcell (c, k)) 0 : sProp 𝕄))).symm) $$ [Hs Hr Hb]
  · isplitl [Hb]; · iexact Hb
    isplitl [Hs]; · iexact Hs
    iexact Hr
  imod (show iprop((bigSep Finset.univ fun k : CI => semVal (kcell (c, k)) 0) ∗ bigSep Finset.univ fun k : CI => roundState ER (sched m) (kcell (c, k)) 0)
      ⊢ (|={Set.univ}=> bigSep Finset.univ fun k : CI => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The tokens dealt to their payers -/

/-- What is dealt by rows is dealt by columns. -/
theorem swapped {A B : Type} (s : Finset A) (t : Finset B) (Φ : A → B → sProp 𝕄) :
    (bigSep s fun a => bigSep t fun b => Φ a b) = bigSep t fun b => bigSep s fun a => Φ a b := by
  classical
  induction s using Finset.induction_on with
  | empty =>
    simp only [bigSep_empty]
    induction t using Finset.induction_on with
    | empty => exact bigSep_empty.symm
    | insert b t hb it => rw [bigSep_insert hb, ← it]; exact (equiv_iff.mp Idealize.SL.BI.sep_emp).symm
  | insert a s ha ih =>
    simp only [bigSep_insert ha]
    rw [ih]
    exact (bigSep_sep' t _ _).symm

/-- The device `k` places on. -/
def shift (k : Fin 16) : Dev nD ≃ Dev nD where
  toFun c := c + k
  invFun c := c - k
  left_inv c := dev_add_sub c k
  right_inv c := dev_sub_add c k

theorem toks_bar : (bigSep Finset.univ fun c : Dev nD => bigSep Finset.univ fun o : Fin 16 => (dutyTok ER (barCell c) 0 o : sProp 𝕄))
    ⊢ bigSep Finset.univ fun c : Dev nD => bigSep (Finset.Ico 1 16) fun i => dutyTok ER (barCell (c - neg i)) 0 (neg i) := by
  have h : (bigSep Finset.univ fun c : Dev nD => bigSep Finset.univ fun o : Fin 16 => (dutyTok ER (barCell c) 0 o : sProp 𝕄))
      ⊢ bigSep Finset.univ fun c : Dev nD => bigSep (Finset.Ico 1 16) fun i => dutyTok ER (barCell c) 0 (neg i) :=
    bigSep_mono (fun c _ => (Entails.of_eq (reindex0 image_neg (fun o => (dutyTok ER (barCell c) 0 o : sProp 𝕄)))).trans sep_elim_right)
  refine h.trans (Entails.of_eq ?_)
  rw [swapped, swapped Finset.univ]
  exact bigSep_congr fun i _ => bigSep_univ_equiv (shift (neg i)).symm (fun c => (dutyTok ER (barCell c) 0 (neg i) : sProp 𝕄))

theorem toks_recv : (bigSep Finset.univ fun c : Dev nD => bigSep Finset.univ fun k : Fin 16 => (dutyTok ER (recvCell c k) 0 0 : sProp 𝕄))
    ⊢ bigSep Finset.univ fun c : Dev nD => bigSep (Finset.Ico 1 16) fun i => dutyTok ER (recvCell (c + ord i) (ord i)) 0 0 := by
  have h : (bigSep Finset.univ fun c : Dev nD => bigSep Finset.univ fun k : Fin 16 => (dutyTok ER (recvCell c k) 0 0 : sProp 𝕄))
      ⊢ bigSep Finset.univ fun c : Dev nD => bigSep (Finset.Ico 1 16) fun i => dutyTok ER (recvCell c (ord i)) 0 0 :=
    bigSep_mono (fun c _ => (Entails.of_eq (reindex0 image_ord (fun k => (dutyTok ER (recvCell c k) 0 0 : sProp 𝕄)))).trans sep_elim_right)
  refine h.trans (Entails.of_eq ?_)
  rw [swapped, swapped Finset.univ]
  exact bigSep_congr fun i _ => bigSep_univ_equiv (shift (ord i)) (fun c => (dutyTok ER (recvCell c (ord i)) 0 0 : sProp 𝕄))

theorem toks_around : (bigSep Finset.univ fun c : Dev nD => (toks c : sProp 𝕄)) ⊢ bigSep Finset.univ fun c : Dev nD => payToks c := by
  have hs : (bigSep Finset.univ fun c : Dev nD => bigSep Finset.univ fun k : Fin 16 => (dutyTok ER (sendCell c k) 0 0 : sProp 𝕄))
      ⊢ bigSep Finset.univ fun c : Dev nD => bigSep (Finset.Ico 1 16) fun i => dutyTok ER (sendCell c (ord i)) 0 0 :=
    bigSep_mono (fun c _ => (Entails.of_eq (reindex0 image_ord (fun k => (dutyTok ER (sendCell c k) 0 0 : sProp 𝕄)))).trans sep_elim_right)
  unfold toks payToks Toks
  simp only [bigSep_sep']
  iintro ⟨H1, H2, H3⟩
  isplitl [H1]; · iapply (toks_bar (F := F)); iexact H1
  isplitl [H2]; · iapply hs; iexact H2
  iapply (toks_recv (F := F)); iexact H3

/-- From every device's allocation: one record of all invariants, and each device its positions, counters and tokens. -/
theorem regroup : (bigSep Finset.univ fun c : Dev nD => alloced m c) ⊢ bigSep Finset.univ (G' m) := by
  unfold alloced
  rw [bigSep_sep', bigSep_sep', bigSep_sep', ← bigSep_univ_prod (fun ck : Dev nD × CI => iprop(∃ κ : ℕ, cellInv ER (sched m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, Hw⟩
  ihave HK := (BI.bigSep_exists_pi Finset.univ (fun (ck : Dev nD × CI) (κ : ℕ) => (cellInv ER (sched m) κ (kcell ck) : sProp 𝕄))) $$ HI
  icases HK with ⟨%K, #HI⟩
  ihave Htk := (toks_around (F := F)) $$ Htok
  have hl : (bigSep Finset.univ fun c : Dev nD => iprop((bigSep Finset.univ fun k : CI => atPos ER (kcell (c, k)) 0 ∅ 0)
        ∗ (bigSep Finset.univ fun s : Fin 4 => semVal (wCell c s) 0) ∗ payToks c))
      ⊢ bigSep Finset.univ fun c : Dev nD => (linear c : sProp 𝕄) := bigSep_mono fun c _ => by
    rw [cells_eq c (fun k => (atPos ER (kcell (c, k)) 0 ∅ 0 : sProp 𝕄))]
    unfold linear
    refine (show (_ : sProp 𝕄) ⊢ _ from ?_)
    iintro ⟨⟨Hb, Hs, Hr⟩, Hw, Ht⟩
    isplitl [Hb]; · iexact Hb
    isplitl [Hs]; · iexact Hs
    isplitl [Hr]; · iexact Hr
    isplitl [Hw] <;> iassumption
  have hg : iprop(records m K ∗ bigSep Finset.univ fun c : Dev nD => linear c) ⊢ bigSep Finset.univ (G' m) :=
    bigSep_with_persistent (R := records m K) fun c _ => by
      unfold G'; iintro H; iexists K; iexact H
  iapply hg
  isplitr
  · unfold records; isplitl; · iexact HI
    iexact HR
  · iapply hl
    rw [bigSep_sep', bigSep_sep']
    isplitl [Hat]; · iexact Hat
    isplitl [Hw] <;> iassumption

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recvS_injective : Function.Injective recvS := fun a b h => Fin.ext (by
  have := congrArg Fin.val h; rw [recvS_val, recvS_val] at this; omega)
theorem recv_eq_iff {a b : Dev nD} {k l : Fin 16} : Iff (recvCell a k = recvCell b l) (a = b ∧ k = l) :=
  ⟨fun h => ⟨Fin.ext (congrArg (fun g : GSem nD τ sig => g.1.1.val) h), recvS_injective (SemLoc.dma.inj (congrArg Prod.snd h))⟩, fun h => by rw [h.1, h.2]⟩

theorem OR_bar (d c : Dev nD) : OR d 1 (barCell c) () = 0 := by
  by_contra h
  obtain ⟨e, k, _, h⟩ := OR_pos (le_refl 1) (Nat.pos_of_ne_zero h)
  exact recv_ne_bar k (congrArg Prod.snd h).symm

theorem owed_bar (d c : Dev nD) : O₀ d (barCell c) () = ∑ i ∈ Finset.Ico 1 16, if c = d - neg i then 1 else 0 := by
  unfold O₀ OB
  rw [Pi.add_apply, Finsupp.add_apply, OR_bar, Nat.zero_add, Finset.sum_apply, Finsupp.finset_sum_apply]
  refine Finset.sum_congr rfl fun i _ => ?_
  rw [tallyAt_apply]
  by_cases h : c = d - neg i
  · rw [if_pos ⟨by rw [h], rfl⟩, if_pos h]
  · rw [if_neg (fun h' => h (bar_eq_iff.mp h'.1)), if_neg h]

theorem owed_recv (d c : Dev nD) (k : Fin 16) : O₀ d (recvCell c k) () = ∑ i ∈ Finset.Ico 1 16, if c = d + ord i ∧ k = ord i then N else 0 := by
  unfold O₀ OB OR
  rw [Pi.add_apply, Finsupp.add_apply, Finset.sum_apply, Finsupp.finset_sum_apply, Finset.sum_apply, Finsupp.finset_sum_apply]
  rw [Finset.sum_eq_zero (s := Finset.Ico 1 16) (f := fun i => (tallyAt (barCell (d - neg i)) () 1 : CellTallies nD τ sig Unit) (recvCell c k) ()) (fun i _ => by
    rw [tallyAt_apply, if_neg fun h => recv_ne_bar k (congrArg Prod.snd h.1)]), Nat.add_zero]
  refine Finset.sum_congr rfl fun i _ => ?_
  rw [tallyAt_apply]
  by_cases h : c = d + ord i ∧ k = ord i
  · rw [if_pos ⟨recv_eq_iff.mpr h, rfl⟩, if_pos h]
  · rw [if_neg (fun h' => h (recv_eq_iff.mp h'.1)), if_neg h]

theorem count_bar (c : Fin 16) : ∑ d : Fin 16, ∑ i ∈ Finset.Ico 1 16, (if c = d - neg i then 1 else 0) = 15 := by
  revert c; decide +kernel
theorem count_recv (c : Fin 16) (k : Fin 16) (hk : k ≠ 0) (n : ℕ) :
    ∑ d : Fin 16, ∑ i ∈ Finset.Ico 1 16, (if c = d + ord i ∧ k = ord i then n else 0) = n := by
  have h : ∀ (c k : Fin 16), k ≠ 0 → ∑ d : Fin 16, ∑ i ∈ Finset.Ico 1 16, (if c = d + ord i ∧ k = ord i then 1 else 0) = 1 := by decide +kernel
  have e := congrArg (· * n) (h c k hk)
  simp only [Finset.sum_mul, Nat.one_mul, ite_mul, Nat.zero_mul] at e
  exact e

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  exact count_bar c
theorem launch_recv (c : Dev nD) (k : Fin 16) (hk : k ≠ 0) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k]
  exact count_recv c k hk N

theorem ord_injOn : Set.InjOn ord (Finset.Ico 1 16 : Finset ℕ) := by
  apply Finset.card_image_iff.mp; rw [image1_ord]; rfl

theorem creds_intro (c : Dev nD) : (Pipeline.launchCred O₀ c : sProp 𝕄) ⊢ creds c := by
  unfold Pipeline.launchCred creds
  rw [bigSep_univ_at _ (SemLoc.reg barS), launch_bar]
  refine sep_mono_right ?_
  have hinj : Set.InjOn (fun i => (SemLoc.dma (recvS (ord i)) : SemLoc sig)) (Finset.Ico 1 16 : Finset ℕ) :=
    fun a ha b hb h => ord_injOn ha hb (recvS_injective (SemLoc.dma.inj h))
  have hsub : (Finset.Ico 1 16).image (fun i => (SemLoc.dma (recvS (ord i)) : SemLoc sig)) ⊆ Finset.univ.erase (SemLoc.reg barS) := by
    intro s hs
    obtain ⟨i, -, rfl⟩ := Finset.mem_image.mp hs
    exact Finset.mem_erase.mpr ⟨recv_ne_bar _, Finset.mem_univ _⟩
  refine (bigSep_subset hsub).trans ?_
  rw [bigSep_image_of_injOn hinj]
  exact Entails.of_eq (bigSep_congr fun i hi => by
    rw [show (((c.tc : Thread nD τ), SemLoc.dma (recvS (ord i))) : GSem nD τ sig) = recvCell c (ord i) from rfl,
      launch_recv c (ord i) (ord_ne i (Finset.mem_Ico.mp hi).1)])

end Cert.KProof

end
-- ==== Proof.Run.lean ====
/-
# The run of all sixteen devices
-/
module

public import proofs.«01_k».proof.Proof.Ghost
public import Idealize.ShloMosaic.Lib.Pipeline.CollectiveSegs

@[expose] public section

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The side conditions of the launch -/

theorem share_eq (c : Dev nD) (w : Fin cfg0.W) : (dats m 0 c).share w = fullShare := by unfold Dat.share; split <;> rfl

/-- What the launch hands a device is what its run starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HW, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    unfold wAll; iexact HW
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch anyXs anyBuf anyWbuf
  iintro ⟨Hs, -, Hr⟩
  isplitl [Hs]; · iexact Hs
  iexact Hr

theorem phi1_exit (c : Dev nD) :
    (dats m 0 c).Φ (Fin.last cfg0.N) ⊢ iprop((unscopedSems0 c ∗ wAll m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ scratch anyXs anyBuf anyWbuf zeros
  iintro ⟨⟨Hb, Hs, Hr, Hw⟩, HW, Hscr⟩
  isplitl [Hb HW]
  · isplitl [Hb] <;> iassumption
  isplitl [Hs Hr Hw]
  · isplitl [Hs]; · iexact Hs
    isplitl [Hr] <;> iassumption
  iexact Hscr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- The contents that array `w` of device `c` ends with. -/
def finalA (c : Dev nD) (w : Fin cfg0.W) : Buf (Elt F) ((cfg0.win w).arr.view.loc (c : Thread nD τ)) := (dats m 0 c).arrAt w cfg0.N

/-- Every window's array holds its final contents, and `w` is unchanged. -/
def QC (r : PUnit × MemSt nD τ sig (Elt F)) : Prop :=
  ∀ c : Dev nD, (∀ w : Fin cfg0.W, r.2.mem ((cfg0.win w).arr.view.loc (c : Thread nD τ)) = finalA m c w)
    ∧ r.2.mem ((c : Thread nD τ).loc main_arg1) = m ((c : Thread nD τ).loc main_arg1)

set_option maxRecDepth 8000 in
/-- On sixteen devices, for any float values, from any memory with zero counters: every weakly fair execution of @main terminates,
    and every final state has each device's result at the computed contents, every argument unchanged and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := (u₀_split (F := F)) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ wAll m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold wAll
      iintro ⟨⟨Hu, HW⟩, -, HSI⟩
      icombine HSI HW gives %h
      have hw := Buf.eq_of_forall_mem_univ h
      imod (Pipeline.unscopedSems0_read (X := unscopedSems0 c) (c := c) fupd_intro s') $$ [Hu HSI] with ⟨%hs, HSI⟩
      · isplitl [Hu] <;> iassumption
      imodintro
      isplitr
      · ipureintro; exact ⟨hs, hw⟩
      · iexact HSI)
    (hQ := fun _ h hs => ⟨fun c => ⟨(h c).1, (h c).2.2.2⟩, sem_eq_zero hs fun c => (h c).2.2.1⟩)

/-- An input array ends as it began. -/
theorem finalA_in (c : Dev nD) (w : Fin cfg0.W) (hw : (cfg0.win w).isOut = false) :
    finalA m c w = m ((cfg0.win w).arr.view.loc (c : Thread nD τ)) :=
  (dats (F := F) m 0 c).arrAt_in w hw _

end Cert.KProof

end
-- ==== Proof.Frames.lean ====
/-
# The frames of the three programs
-/
module

public import proofs.«01_k».proof.Proof.Run
public import proofs.«01_k».proof.Defs
public import proofs.«01_k».proof.Proof.Gen.Kernel
public import proofs.«01_k».proof.Proof.Gen.ReferenceIdeal.Run

@[expose] public section

noncomputable section

namespace Cert.KProof

open Idealize.ShloMosaic Idealize.SL.Sem Idealize.ShloMosaic.TcCoe

/-- What the run leaves of device `c`'s memory: its result window's array, and its four arguments as they were. -/
theorem kernel_post {F : FTy → Type} [FloatOps F] (m : (ℓ : Loc KernelIdeal.nD KernelIdeal.τ KernelIdeal.sig) → Buf (Elt F) ℓ)
    {r : PUnit × MemSt KernelIdeal.nD KernelIdeal.τ KernelIdeal.sig (Elt F)} (h : QC m r) (c : Dev KernelIdeal.nD) :
    r.2.mem ((c.tc : Thread KernelIdeal.nD KernelIdeal.τ).loc KernelIdeal.main_v1) = finalA m c (3 : Fin 4)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3) :=
  ⟨(h c).1 (3 : Fin 4), ((h c).1 (0 : Fin 4)).trans (finalA_in m c 0 rfl), (h c).2, ((h c).1 (1 : Fin 4)).trans (finalA_in m c 1 rfl),
    ((h c).1 (2 : Fin 4)).trans (finalA_in m c 2 rfl)⟩

theorem frame_kernel_ideal : Cert.quiescent_KernelIdeal :=
  fun m g _ => (θ_run Cert.KernelIdeal.defs _ _).mono (fun _ h => ⟨fun c => (kernel_post m h.1 c).2, h.2⟩) (run_main (F := Ideal) m g)

section same
variable {F : FTy → Type} [FloatOps F]

theorem body_same : Kernel.cc0_body (F := F) = KernelIdeal.cc0_body (F := F) := rfl

/-- The printed kernel has the idealized one's text: the two have one table of bodies, -/
theorem bodies_same : Kernel.defs₀ (F := F) = KernelIdeal.defs₀ (F := F) :=
  congrArg Defs.onTc (funext fun ℓ => funext fun a => by
    match ℓ, a with
    | 0, (t, s) => rfl
    | ⟨_ + 1, h⟩, _ => exact absurd h (Nat.not_lt.2 (Nat.le_add_left _ _)))
/-- and one table of labels. -/
theorem defs_same : Kernel.defs (F := F) = KernelIdeal.defs (F := F) := congrArg (Pipeline.defs (KernelIdeal.pcfgs (F := F))) bodies_same

end same

/-- The printed kernel's run is the idealized one's text run at machine floats. -/
theorem frame_kernel : Cert.quiescent_Kernel := fun m g _ =>
  cast (congrArg (fun D => θ_run D (onTc (τ := KernelIdeal.τ) (KernelIdeal.main (F := Bits))) ⟨m, fun _ => 0, g⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3))
      ∧ r.2.sem = fun _ => 0)) (defs_same (F := Bits)).symm)
    ((θ_run Cert.KernelIdeal.defs _ _).mono (fun _ h => ⟨fun c => (kernel_post m h.1 c).2, h.2⟩) (run_main (F := Bits) m g))

theorem frame_reference : Cert.quiescent_ReferenceIdeal :=
  fun m g _ => (θ_run Cert.ReferenceIdeal.defs _ _).mono (fun r h => ⟨fun c => (h c).2, sem_eq_zero_of_no_sems rfl r.2⟩)
    (Cert.ReferenceIdeal.Value.run (F := Ideal) m g)

end Cert.KProof

end
-- ==== Proof.Result.lean ====
/-
# What the run leaves in the result array, and what the staged blocks hold
-/
module

public import proofs.«01_k».proof.Proof.Run
public import Idealize.ShloMosaic.Lib.Pipeline.Value

@[expose] public section

noncomputable section

namespace Cert.KProof

open Cert.KernelIdeal Cert.KernelIdeal.Gen
open Idealize.ShloMosaic
open Idealize.ShloMosaic.TcCoe
open Idealize.ShloMosaic.Pipeline (Dat)

variable {F : FTy → Type} [FloatOps F]
variable (m : (ℓ : Loc nD τ sig) → Buf (Elt F) ℓ)

/-! ## The staged blocks are the whole arguments -/

theorem xstg_eq (c : Dev nD) : xstg m c = m ((c : Thread nD τ).loc main_arg0) := by
  have hz' : (fun a => win0_0.index t₀ a * main_arg0.ty.shape.size a) = fun _ => 0 := funext fun a => by fin_cases a <;> decide
  exact Memref.read_access_unit_zero (Elt F) main_arg0 hz' (fun a => by rw [congrFun hz' a]; simp) (m ((c : Thread nD τ).loc main_arg0))
theorem sxstg_eq (c : Dev nD) : sxstg m c = m ((c : Thread nD τ).loc main_arg2) := by
  have hz' : (fun a => win0_1.index t₀ a * main_arg2.ty.shape.size a) = fun _ => 0 := funext fun a => by fin_cases a; decide
  exact Memref.read_access_unit_zero (Elt F) main_arg2 hz' (fun a => by rw [congrFun hz' a]; simp) (m ((c : Thread nD τ).loc main_arg2))
theorem swstg_eq (c : Dev nD) : swstg m c = m ((c : Thread nD τ).loc main_arg3) := by
  have hz' : (fun a => win0_2.index t₀ a * main_arg3.ty.shape.size a) = fun _ => 0 := funext fun a => by fin_cases a; decide
  exact Memref.read_access_unit_zero (Elt F) main_arg3 hz' (fun a => by rw [congrFun hz' a]; simp) (m ((c : Thread nD τ).loc main_arg3))

/-! ## The result array -/

/-- What device `c` stores, as contents of its result array. -/
abbrev resultV (c : Dev nD) : Buf (Elt F) ((c : Thread nD τ).loc main_v1) := outAt m c

theorem flushed_out (c : Dev nD) (t : Fin cfg0.N) (hf : (cfg0.win (3 : Fin 4)).flush t = true) :
    (dats m 0 c).flushed (3 : Fin 4) t = ((cfg0.win (3 : Fin 4)).blk t).view.read (Elt F) (resultV m c) := by
  obtain rfl : t = t₀ := fin_N0 t
  have hz' : (fun a => win0_3.index t₀ a * main_v1.ty.shape.size a) = fun _ => 0 := funext fun a => by fin_cases a <;> decide
  exact (Memref.read_access_unit_zero (Elt F) main_v1 hz' (fun a => by rw [congrFun hz' a]; simp) (resultV m c)).symm

/-- The run leaves in device `c`'s result array what its body stores. -/
theorem finalA_out (c : Dev nD) : finalA m c (3 : Fin 4) = resultV m c :=
  (dats m 0 c).arrAt_eq_of_cover (3 : Fin 4) (resultV m c) (flushed_out m c) fun i =>
    ⟨t₀, flush0_3 t₀, by
      show i ∈ ((View.whole main_v1).slice (win0_3.rect t₀)).set
      rw [View.set_slice_whole, Rect.mem_set_unit]
      intro a
      have h0 : (i 0 : Nat) < 256 := (i 0).isLt
      have h1 : (i 1 : Nat) < 2048 := (i 1).isLt
      match a with
      | ⟨0, _⟩ => show win0_3.index t₀ 0 * win0_3.size 0 ≤ (i 0 : Nat) ∧ (i 0 : Nat) < win0_3.index t₀ 0 * win0_3.size 0 + win0_3.xsize (grid0.coords t₀) 0
                  rw [show win0_3.index t₀ 0 * win0_3.size 0 = 0 from by decide +kernel, show win0_3.xsize (grid0.coords t₀) 0 = 256 from by decide +kernel]; omega
      | ⟨1, _⟩ => show win0_3.index t₀ 1 * win0_3.size 1 ≤ (i 1 : Nat) ∧ (i 1 : Nat) < win0_3.index t₀ 1 * win0_3.size 1 + win0_3.xsize (grid0.coords t₀) 1
                  rw [show win0_3.index t₀ 1 * win0_3.size 1 = 0 from by decide +kernel, show win0_3.xsize (grid0.coords t₀) 1 = 2048 from by decide +kernel]; omega⟩

/-! ## The blocks, element by element -/

theorem xrowV_apply (c : Dev nD) (i : S256x256.Idx) : xrowV m c i = m ((c : Thread nD τ).loc main_arg0) ((rowR c).emb i) :=
  congrFun (xstg_eq m c) _
theorem wrowV_apply (c b : Dev nD) (i : S256x2048.Idx) : wrowV m c b i = m ((c : Thread nD τ).loc main_arg1) ((wrowR b).emb i) := rfl

theorem shapeCast_bV (X : S256x256.Idx → Elt F .fp8e4m3) : shapeCast S256x256 (bV X) shapeCasts_S1x256x256_S256x256 = X :=
  funext fun i => congrArg X (Equiv.symm_apply_apply _ i)
theorem shapeCast_wV (X : S256x2048.Idx → Elt F .f32) : shapeCast S256x2048 (wV X) shapeCasts_S1x256x2048_S256x2048 = X :=
  funext fun i => congrArg X (Equiv.symm_apply_apply _ i)

end Cert.KProof

end
-- ==== Proof.Sums.lean ====
/-
# The sums and the scalar function of the value claim

Plain facts about sums over blocks and about the clipped logistic function, with no device in them.
-/
module

public import proofs.«01_k».proof.Proof.Cells
public import Idealize.ShloMosaic.PureOps.Ideal.Laws
public import Mathlib.Tactic.NormNum

@[expose] public section

noncomputable section

namespace Cert.KProof

open Idealize.ShloMosaic

/-- Coordinate `k` of block `d`, of sixteen blocks of 256. -/
def inBlock (d : Fin 16) (k : Fin 256) : Fin 4096 := ⟨256 * d.val + k.val, by omega⟩

/-- A sum over 4096 coordinates is the sum, over sixteen blocks, of the sums over each block's 256. -/
theorem sum_inBlock {M : Type} [AddCommMonoid M] (g : Fin 4096 → M) : ∑ k, g k = ∑ d : Fin 16, ∑ k : Fin 256, g (inBlock d k) := by
  rw [← Fintype.sum_prod_type' fun d k => g (inBlock d k)]
  refine (Fintype.sum_equiv (finProdFinEquiv (m := 16) (n := 256)) (fun p => g (inBlock p.1 p.2)) g fun p => congrArg g (Fin.ext ?_)).symm
  show 256 * p.1.val + p.2.val = p.2.val + 256 * p.1.val
  omega

/-- The sixteen offsets differ. -/
theorem ord_inj : Function.Injective fun j : Fin 16 => ord j.val := by decide
/-- Each device takes the blocks once each, in an order of its own: summed in that order they give the sum of them all. -/
theorem sum_ord {M : Type} [AddCommMonoid M] (c : Fin 16) (f : Fin 16 → M) : ∑ j ∈ Finset.range 16, f (c - ord j) = ∑ d, f d := by
  rw [Finset.sum_range]
  exact Function.Bijective.sum_comp ((Equiv.subLeft c).bijective.comp (Finite.injective_iff_bijective.1 ord_inj)) f

/-- The scales of the clip: 60, its negation, and one. -/
theorem ofBits_sixty : Ideal.ofBits .f32 0x42700000#32 = ((60 : ℝ) : EReal) := by
  simp [Ideal.ofBits, Ideal.ieee, -EReal.coe_mul]; norm_num
theorem ofBits_neg_sixty : Ideal.ofBits .f32 0xC2700000#32 = ((-60 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num

/-- A value clipped between -60 and 60 is a real number. -/
theorem clip_real (y : EReal) : ∃ r : ℝ, min ((60 : ℝ) : EReal) (max ((-60 : ℝ) : EReal) y) = (r : EReal) := by
  have ht : min ((60 : ℝ) : EReal) (max ((-60 : ℝ) : EReal) y) ≠ ⊤ := ne_top_of_le_ne_top (EReal.coe_ne_top 60) (min_le_left _ _)
  have hb : min ((60 : ℝ) : EReal) (max ((-60 : ℝ) : EReal) y) ≠ ⊥ :=
    ne_bot_of_le_ne_bot (EReal.coe_ne_bot (-60)) (le_min (EReal.coe_le_coe_iff.2 (by norm_num)) (le_max_left _ _))
  exact ⟨_, (EReal.coe_toReal ht hb).symm⟩

/-- The kernel multiplies by the logistic of the clipped value; the reference divides by one plus the exponential of its
    negation. They are one function. -/
theorem silu_eq (y : EReal) :
    y * Ideal.logistic (min ((60 : ℝ) : EReal) (max ((-60 : ℝ) : EReal) y))
      = Ideal.div y (((1 : ℝ) : EReal) + Ideal.exp (-(min ((60 : ℝ) : EReal) (max ((-60 : ℝ) : EReal) y)))) := by
  obtain ⟨r, hr⟩ := clip_real y
  have hpos : (1 : ℝ) + Real.exp (-r) ≠ 0 := by positivity
  rw [hr, Ideal.logistic_coe, ← EReal.coe_neg, Ideal.exp_coe, ← EReal.coe_add, Ideal.div_coe hpos, one_div]

end Cert.KProof

end
-- ==== Proof.Value.lean ====
/-
# The kernel's result over the extended reals

Element (r, j) of what device `c` stores, as sums of products of the arguments' elements.
-/
module

public import proofs.«01_k».proof.Proof.Result
public import proofs.«01_k».proof.Proof.Sums
public import Idealize.ShloMosaic.Lib.Pointwise.Contract

@[expose] public section

noncomputable section

namespace Cert.KProof

open Cert.KernelIdeal Cert.KernelIdeal.Gen
open Idealize.ShloMosaic
open Idealize.ShloMosaic.TcCoe

variable (m : (ℓ : Loc nD τ sig) → Buf (Elt Ideal) ℓ)

/-- The arguments of device `c`, as extended reals. -/
abbrev argX (c : Dev nD) : S4096x256.Idx → EReal := m ((c : Thread nD τ).loc main_arg0)
abbrev argW (c : Dev nD) : S4096x2048.Idx → EReal := m ((c : Thread nD τ).loc main_arg1)
abbrev argS (c : Dev nD) : S1.Idx → EReal := m ((c : Thread nD τ).loc main_arg2)
abbrev argT (c : Dev nD) : S1.Idx → EReal := m ((c : Thread nD τ).loc main_arg3)

/-- The block product's dimension numbers, and the two elements its `k`-th term multiplies. -/
abbrev dotB : DotDims S256x256 S256x2048 S256x2048 := dot_S256x256_S256x2048_S256x2048_1_0_0_1_n_n
def lIx (y : S256x2048.Idx) (k : Fin 256) : S256x256.Idx := dotB.lhsIdx y (dotB.contrIdx₁ (a := 1) rfl (K := 256) rfl k)
def rIx (y : S256x2048.Idx) (k : Fin 256) : S256x2048.Idx := dotB.rhsIdx y (dotB.contrIdx₁ (a := 1) rfl (K := 256) rfl k)

/-- The term of row block `c` of device `d`'s `x` and row block `d` of device `c`'s `w`, at an element of the result. -/
def term (c d : Dev nD) (y : S256x2048.Idx) (k : Fin 256) : EReal :=
  argX m d ((rowR c).emb (lIx y k)) * argW m c ((wrowR d).emb (rIx y k))

/-- A block product at an element is the sum of its 256 terms. -/
theorem dotB_apply (x : S256x256.Idx → EReal) (w : S256x2048.Idx → EReal) (y : S256x2048.Idx) :
    matmul (F := Ideal) (φ₁ := .f32) (φ₂ := .f32) dotB none x w (constant S256x2048 .f32 0x00000000#32) y = ∑ k : Fin 256, x (lIx y k) * w (rIx y k) :=
  (Ideal.matmul_constant_zero_apply dotB none x w y).trans (dotB.sum_contr₁ (a := 1) rfl (K := 256) rfl fun kk => x (dotB.lhsIdx y kk) * w (dotB.rhsIdx y kk))

/-- Row block `b` of device `d`'s cast holds, over the extended reals, the rows of its `x`. -/
theorem rowV_apply (d b : Dev nD) (i : S256x256.Idx) : rowV m d b i = m ((d : Thread nD τ).loc main_arg0) ((rowR b).emb i) := by
  have h : xsB m d = xstg m d := by
    show k0_pay2 (xstg m d) = xstg m d
    unfold k0_pay2
    dsimp only
    rw [shapeCast_self, shapeCast_self]
    rfl
  show xsB m d ((rowR b).emb i) = _
  rw [h, xstg_eq]

theorem accV_zero (c : Dev nD) (y : S256x2048.Idx) : accV m c 0 y = ∑ k, term m c (c - ord 0) y k := by
  show k0_pay3 (xrowV m c) (wV (wrowV m c (c - ord 0))) y = _
  unfold k0_pay3
  rw [shapeCast_self, shapeCast_wV]
  refine (dotB_apply (xrowV m c) (wrowV m c (c - ord 0)) y).trans (Finset.sum_congr rfl fun k _ => ?_)
  rw [xrowV_apply, wrowV_apply]
  unfold term
  rw [show c - ord 0 = c from sub_zero c]

theorem accV_succ (c : Dev nD) (n : ℕ) (y : S256x2048.Idx) : accV m c (n + 1) y = (accV m c n y : EReal) + ∑ k, term m c (c - ord (n + 1)) y k := by
  show k0_pay4 (accV m c n) (bV (rowV m (c - ord (n + 1)) c)) (wV (wrowV m c (c - ord (n + 1)))) y = _
  unfold k0_pay4
  rw [shapeCast_bV, shapeCast_wV]
  refine congrArg (fun z : EReal => (accV m c n y : EReal) + z)
    ((dotB_apply (rowV m (c - ord (n + 1)) c) (wrowV m c (c - ord (n + 1))) y).trans (Finset.sum_congr rfl fun k _ => ?_))
  rw [rowV_apply, wrowV_apply]
  rfl

/-- The accumulator after position `n` is the sum over the positions so far. -/
theorem accV_apply (c : Dev nD) (y : S256x2048.Idx) : ∀ n, accV m c n y = ∑ j ∈ Finset.range (n + 1), ∑ k, term m c (c - ord j) y k
  | 0 => by rw [accV_zero, Finset.sum_range_one]
  | n + 1 => by rw [accV_succ, accV_apply c y n, ← Finset.sum_range_succ]

/-- The whole accumulator is the sum over all sixteen blocks. -/
theorem accV_total (c : Dev nD) (y : S256x2048.Idx) : accV m c 15 y = ∑ d : Fin 16, ∑ k, term m c d y k :=
  (accV_apply m c y 15).trans (sum_ord c fun d => ∑ k, term m c d y k)

/-- The scaled accumulator at an element. -/
def scaledV (c : Dev nD) (y : S256x2048.Idx) : EReal :=
  (accV m c 15 y : EReal) * (argS m c i1 * argT m c i1)

/-- What device `c` stores, at an element. -/
theorem outAt_apply (c : Dev nD) (y : S256x2048.Idx) :
    outAt m c y = Ideal.div (scaledV m c y) (((1 : ℝ) : EReal) + Ideal.exp (-(min ((60 : ℝ) : EReal) (max ((-60 : ℝ) : EReal) (scaledV m c y))))) := by
  rw [← silu_eq, ← ofBits_sixty, ← ofBits_neg_sixty]
  have h2 : sxV m c = argS m c i1 := congrFun (sxstg_eq m c) i1
  have h3 : swV m c = argT m c i1 := congrFun (swstg_eq m c) i1
  unfold scaledV
  rw [← h2, ← h3]
  rfl

end Cert.KProof

end
-- ==== Proof.RefValue.lean ====
/-
# The reference's result over the extended reals

Element (r, j) of the reference's result, as a sum of products of its arguments' elements, block by block.
-/
module

public import proofs.«01_k».proof.Proof.Sums
public import proofs.«01_k».proof.Proof.Gen.ReferenceIdeal.Run
public import Idealize.ShloMosaic.Lib.Pipeline.Value
public import Idealize.ShloMosaic.Lib.Pointwise.Contract

@[expose] public section

noncomputable section

namespace Cert.KProof.Ref

open Cert.ReferenceIdeal Cert.ReferenceIdeal.Gen
open Idealize.ShloMosaic
open Idealize.ShloMosaic.TcCoe

/-- The reference's product, its scale, and its scaled product. -/
abbrev dotR : DotDims S4096x4096 S4096x2048 S4096x2048 := dot_S4096x4096_S4096x2048_S4096x2048_1_0_0_1_n_n
abbrev prodR (X : FVec Ideal S4096x4096 .f32) (W : FVec Ideal S4096x2048 .f32) : FVec Ideal S4096x2048 .f32 := Host.dotGeneral dotR none X W
abbrev scaleR (s t : FVec Ideal S1 .f32) : FVec Ideal S4096x2048 .f32 :=
  broadcastInDim S4096x2048 ![0, 1] bcast_S1x1_S4096x2048_0_1 (broadcastInDim S1x1 ![1] bcast_S1_S1x1_1 (mulf s t))
abbrev scaledR (X : FVec Ideal S4096x4096 .f32) (W : FVec Ideal S4096x2048 .f32) (s t : FVec Ideal S1 .f32) : FVec Ideal S4096x2048 .f32 :=
  mulf (prodR X W) (scaleR s t)
/-- The reference's result. -/
abbrev resultR (X : FVec Ideal S4096x4096 .f32) (W : FVec Ideal S4096x2048 .f32) (s t : FVec Ideal S1 .f32) : FVec Ideal S4096x2048 .f32 :=
  Host.divf (scaledR X W s t) (addf (broadcastInDim S4096x2048 ![] bcast_S_S4096x2048 (constant S_ .f32 0x3F800000#32))
    (Host.exp (Host.negf (minimumf (broadcastInDim S4096x2048 ![] bcast_S_S4096x2048 (id (constant S_ .f32 0x42700000#32)))
      (maximumf (broadcastInDim S4096x2048 ![] bcast_S_S4096x2048 (id (constant S_ .f32 0xC2700000#32))) (scaledR X W s t))))))

def lIx (z : S4096x2048.Idx) (k : Fin 4096) : S4096x4096.Idx := dotR.lhsIdx z (dotR.contrIdx₁ (a := 1) rfl (K := 4096) rfl k)
def rIx (z : S4096x2048.Idx) (k : Fin 4096) : S4096x2048.Idx := dotR.rhsIdx z (dotR.contrIdx₁ (a := 1) rfl (K := 4096) rfl k)

/-- The product at an element is the sum of its 4096 terms, taken sixteen blocks at a time. -/
theorem prodR_apply (X : FVec Ideal S4096x4096 .f32) (W : FVec Ideal S4096x2048 .f32) (z : S4096x2048.Idx) :
    prodR X W z = ∑ d : Fin 16, ∑ k : Fin 256, (X (lIx z (inBlock d k)) * W (rIx z (inBlock d k)) : EReal) :=
  ((Ideal.dotGeneral_apply dotR none _ X W z).trans
    (dotR.sum_contr₁ (a := 1) rfl (K := 4096) rfl fun kk => (X (dotR.lhsIdx z kk) * W (dotR.rhsIdx z kk) : EReal))).trans
    (sum_inBlock fun k => (X (lIx z k) * W (rIx z k) : EReal))

/-- The scale is the product of the two scales, at every element. -/
theorem scaleR_apply (s t : FVec Ideal S1 .f32) (z : S4096x2048.Idx) (i : S1.Idx) : scaleR s t z = (s i * t i : EReal) := by
  have hi : ∀ i' : S1.Idx, i' = i := fun i' => funext fun a => Fin.ext (by
    fin_cases a
    have h1 : (i' 0).val < 1 := (i' 0).isLt
    have h2 : (i 0).val < 1 := (i 0).isLt
    show (i' 0).val = (i 0).val
    omega)
  have hc : ∀ i' : S1.Idx, mulf s t i' = (s i * t i : EReal) := fun i' => by rw [hi i']; rfl
  exact hc _

/-- The reference's result at an element. -/
theorem resultR_apply (X : FVec Ideal S4096x4096 .f32) (W : FVec Ideal S4096x2048 .f32) (s t : FVec Ideal S1 .f32) (z : S4096x2048.Idx) :
    resultR X W s t z = Ideal.div (scaledR X W s t z)
      (((1 : ℝ) : EReal) + Ideal.exp (-(min ((60 : ℝ) : EReal) (max ((-60 : ℝ) : EReal) (scaledR X W s t z))))) := by
  rw [← ofBits_sixty, ← ofBits_neg_sixty, ← ofBits_one]
  rfl

end Cert.KProof.Ref

end
-- ==== Proof.Algebra.lean ====
/-
# The kernel computes the reference, over the extended reals
-/
module

public import proofs.«01_k».proof.Proof.Value
public import proofs.«01_k».proof.Proof.RefValue
public import proofs.«01_k».proof.Proof.Frames
public import Idealize.ShloMosaic.Lib.Layout
public import Idealize.ShloMosaic.Lib.Pipeline.ValueKit.Geometry

@[expose] public section

noncomputable section

namespace Cert.KProof

open Idealize.ShloMosaic Idealize.SL.Sem Idealize.ShloMosaic.TcCoe

/-- How the whole `x` and the whole result are cut into sixteen blocks. -/
theorem tilesX : Layout.Tiles ⟨2, ![4096, 256]⟩ ⟨2, ![4096, 4096]⟩ 1 16 := by decide
theorem tilesO : Layout.Tiles ⟨2, ![256, 2048]⟩ ⟨2, ![4096, 2048]⟩ 0 16 := by decide

/-- Coordinates of an element of a row block. -/
theorem row_val (c : Fin 16) (i : KernelIdeal.S256x256.Idx) (a : Fin 2) : ((rowR c).emb i a).val = (![256 * c.val, 0] : Fin 2 → Nat) a + (i a).val :=
  ValueKit.rect_emb_unit_val (s := KernelIdeal.S4096x256) ![256 * c.val, 0] KernelIdeal.S256x256.size (inb_row c) i a
theorem wrow_val (c : Fin 16) (i : KernelIdeal.S256x2048.Idx) (a : Fin 2) : ((wrowR c).emb i a).val = (![256 * c.val, 0] : Fin 2 → Nat) a + (i a).val :=
  ValueKit.rect_emb_unit_val (s := KernelIdeal.S4096x2048) ![256 * c.val, 0] KernelIdeal.S256x2048.size (inb_wrow c) i a
theorem row_0 (c : Fin 16) (i : KernelIdeal.S256x256.Idx) : ((rowR c).emb i 0).val = 256 * c.val + (i 0).val := row_val c i 0
theorem row_1 (c : Fin 16) (i : KernelIdeal.S256x256.Idx) : ((rowR c).emb i 1).val = (i 1).val := (row_val c i 1).trans (Nat.zero_add _)
theorem wrow_0 (c : Fin 16) (i : KernelIdeal.S256x2048.Idx) : ((wrowR c).emb i 0).val = 256 * c.val + (i 0).val := wrow_val c i 0
theorem wrow_1 (c : Fin 16) (i : KernelIdeal.S256x2048.Idx) : ((wrowR c).emb i 1).val = (i 1).val := (wrow_val c i 1).trans (Nat.zero_add _)

/-- The element of the whole `x` that a term of the kernel's sum reads is the one the reference's term reads, -/
theorem ix_x (c d : Fin 16) (y : KernelIdeal.S256x2048.Idx) (k : Fin 256) :
    tilesX.idx d ((rowR c).emb (lIx y k)) = Ref.lIx (tilesO.idx c y) (inBlock d k) :=
  funext fun a => Fin.ext (by
    match a with
    | ⟨0, _⟩ =>
      refine (tilesX.idx_val d _ (0 : Fin 2)).trans ((row_0 c (lIx y k)).trans ?_)
      show 256 * c.val + (y 0).val = c.val * 256 + (y 0).val
      omega
    | ⟨1, _⟩ =>
      refine (tilesX.idx_val d _ (1 : Fin 2)).trans ((congrArg (fun n => d.val * 256 + n) (row_1 c (lIx y k))).trans ?_)
      show d.val * 256 + k.val = 256 * d.val + k.val
      omega)
/-- and so is the element of `w`. -/
theorem ix_w (c d : Fin 16) (y : KernelIdeal.S256x2048.Idx) (k : Fin 256) :
    (wrowR d).emb (rIx y k) = Ref.rIx (tilesO.idx c y) (inBlock d k) :=
  funext fun a => Fin.ext (by
    match a with
    | ⟨0, _⟩ => exact wrow_0 d (rIx y k)
    | ⟨1, _⟩ => exact wrow_1 d (rIx y k))

section
variable (m : (ℓ : Loc KernelIdeal.nD KernelIdeal.τ KernelIdeal.sig) → Buf (Elt Ideal) ℓ)
  (X : FVec Ideal ReferenceIdeal.S4096x4096 .f32) (W : FVec Ideal ReferenceIdeal.S4096x2048 .f32) (s t : FVec Ideal ReferenceIdeal.S1 .f32)
  (hX : ∀ d, argX m d = Layout.block ⟨2, ![4096, 256]⟩ ⟨2, ![4096, 4096]⟩ 1 16 d X) (hW : ∀ d, argW m d = W) (hs : ∀ d, argS m d = s) (ht : ∀ d, argT m d = t)
include hX hW hs ht

/-- The scaled accumulator of device `c` is row block `c` of the reference's scaled product. -/
theorem scaled_same (c : Fin 16) (y : KernelIdeal.S256x2048.Idx) : scaledV m c y = Ref.scaledR X W s t (tilesO.idx c y) := by
  have hp : accV m c 15 y = Ref.prodR X W (tilesO.idx c y) := by
    rw [Ref.prodR_apply]
    refine (accV_total m c y).trans (Finset.sum_congr rfl fun d _ => Finset.sum_congr rfl fun k _ => ?_)
    unfold term
    rw [hX, hW, Layout.block_apply, ix_x c d y k, ix_w c d y k]
  unfold scaledV
  rw [hp, hs, ht, ← Ref.scaleR_apply s t (tilesO.idx c y) i1]
  rfl

/-- What device `c` stores is row block `c` of the reference's result. -/
theorem out_same (c : Fin 16) : outAt m c = Layout.block ⟨2, ![256, 2048]⟩ ⟨2, ![4096, 2048]⟩ 0 16 c (Ref.resultR X W s t) :=
  funext fun y => by
    rw [outAt_apply, scaled_same m X W s t hX hW hs ht c y]
    exact (Ref.resultR_apply X W s t (tilesO.idx c y)).symm
end

/-- From memories that hold the same arguments, the kernel leaves on each device its row block of what the reference leaves. -/
theorem algebraic : Cert.algebraic_KernelIdeal_ReferenceIdeal := fun m g m' g' _ hm =>
  ⟨Ref.resultR (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1))
      (m' (((0 : Dev ReferenceIdeal.nD).tc : Thread ReferenceIdeal.nD ReferenceIdeal.τ).loc ReferenceIdeal.main_arg2))
      (m' (((0 : Dev ReferenceIdeal.nD).tc : Thread ReferenceIdeal.nD ReferenceIdeal.τ).loc ReferenceIdeal.main_arg3)),
    (θ_run Cert.KernelIdeal.defs _ _).mono (fun _ h c => ⟨((kernel_post m h.1 c).1.trans (finalA_out m c)).trans
        (out_same m _ _ _ _ (fun d => (hm d).1) (fun d => (hm d).2.1) (fun d => (hm d).2.2.1) (fun d => (hm d).2.2.2) c), (kernel_post m h.1 c).2⟩)
      (run_main (F := Ideal) m g),
    (θ_run Cert.ReferenceIdeal.defs _ _).mono (fun _ h => h 0) (Cert.ReferenceIdeal.Value.run (F := Ideal) m' g')⟩

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.frame_kernel, Cert.KProof.frame_kernel_ideal, Cert.KProof.frame_reference, trivial, Cert.KProof.algebraic⟩

end Cert.Proof

end
